-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S32x16x128 : Shape := ⟨3, ![32, 16, 128]⟩
abbrev S4096x16 : Shape := ⟨2, ![4096, 16]⟩
abbrev S16x128 : Shape := ⟨2, ![16, 128]⟩
abbrev S_ : Shape := ⟨0, ![]⟩
abbrev S1x4096x16 : Shape := ⟨3, ![1, 4096, 16]⟩
abbrev S16 : Shape := ⟨1, ![16]⟩
abbrev S1x16 : Shape := ⟨2, ![1, 16]⟩
abbrev S1x16x128 : Shape := ⟨3, ![1, 16, 128]⟩
abbrev S4x8x16x128 : Shape := ⟨4, ![4, 8, 16, 128]⟩
abbrev S4x8x128x16 : Shape := ⟨4, ![4, 8, 128, 16]⟩
abbrev S4x16384 : Shape := ⟨2, ![4, 16384]⟩

abbrev nBuf : Table → Nat
  | .hbm => 5
  | .local .scVector .vmem => 2
  | _ => 0

abbrev bufTy : (tb : Table) → Fin (nBuf tb) → BufTy
  | .hbm, ⟨0, _⟩ => ⟨S4x4096x1024, .f32⟩
  | .hbm, ⟨1, _⟩ => ⟨S32x16x128, .f32⟩
  | .hbm, ⟨2, _⟩ => ⟨S4x8x16x128, .f32⟩
  | .hbm, ⟨3, _⟩ => ⟨S4x8x128x16, .f32⟩
  | .hbm, ⟨4, _⟩ => ⟨S4x16384, .f32⟩
  | .local .scVector .vmem, ⟨0, _⟩ => ⟨S4096x16, .f32⟩
  | .local .scVector .vmem, ⟨1, _⟩ => ⟨S16x128, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_285_r0 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v30 : BitVec 32 := Scalar.addi v29 c0_i32_10
  ![v18.toNat, 0, v30.toNat]
@[reducible] def k0_t1_loop : Scf.Loop 32 :=
  let c0_i32_11 : BitVec 32 := 0#32
  let c256_i32 : BitVec 32 := 256#32
  let v32 : BitVec 32 := Scalar.addi c0_i32_11 c256_i32
  let c1_i32_12 : BitVec 32 := 1#32
  ⟨c0_i32_11, v32, c1_i32_12⟩
def k0_off2 (k0_t1 : Fin k0_t1_loop.trips) (c0_i32_286 : BitVec 32) : Fin 2 → Nat :=
  let c0_i32_11 : BitVec 32 := 0#32
  let c1_i32_12 : BitVec 32 := 1#32
  let arg6 : BitVec 32 := Scf.iv c0_i32_11 c1_i32_12 k0_t1
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t2_loop : Scf.Loop 32 :=
  let c0_i32_34 : BitVec 32 := 0#32
  let c256_i32_35 : BitVec 32 := 256#32
  let v100 : BitVec 32 := Scalar.addi c0_i32_34 c256_i32_35
  let c1_i32_36 : BitVec 32 := 1#32
  ⟨c0_i32_34, v100, c1_i32_36⟩
def k0_off3 (k0_t2 : Fin k0_t2_loop.trips) (c0_i32_286 : BitVec 32) : Fin 2 → Nat :=
  let c0_i32_34 : BitVec 32 := 0#32
  let c1_i32_36 : BitVec 32 := 1#32
  let arg6 : BitVec 32 := Scf.iv c0_i32_34 c1_i32_36 k0_t2
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t3_loop : Scf.Loop 32 :=
  let c0_i32_70 : BitVec 32 := 0#32
  let c256_i32_71 : BitVec 32 := 256#32
  let v168 : BitVec 32 := Scalar.addi c0_i32_70 c256_i32_71
  let c1_i32_72 : BitVec 32 := 1#32
  ⟨c0_i32_70, v168, c1_i32_72⟩
def k0_off4 (k0_t3 : Fin k0_t3_loop.trips) (c0_i32_286 : BitVec 32) : Fin 2 → Nat :=
  let c0_i32_70 : BitVec 32 := 0#32
  let c1_i32_72 : BitVec 32 := 1#32
  let arg6 : BitVec 32 := Scf.iv c0_i32_70 c1_i32_72 k0_t3
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t4_loop : Scf.Loop 32 :=
  let c0_i32_106 : BitVec 32 := 0#32
  let c256_i32_107 : BitVec 32 := 256#32
  let v236 : BitVec 32 := Scalar.addi c0_i32_106 c256_i32_107
  let c1_i32_108 : BitVec 32 := 1#32
  ⟨c0_i32_106, v236, c1_i32_108⟩
def k0_off5 (k0_t4 : Fin k0_t4_loop.trips) (c0_i32_286 : BitVec 32) : Fin 2 → Nat :=
  let c0_i32_106 : BitVec 32 := 0#32
  let c1_i32_108 : BitVec 32 := 1#32
  let arg6 : BitVec 32 := Scf.iv c0_i32_106 c1_i32_108 k0_t4
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t5_loop : Scf.Loop 32 :=
  let c0_i32_142 : BitVec 32 := 0#32
  let c256_i32_143 : BitVec 32 := 256#32
  let v304 : BitVec 32 := Scalar.addi c0_i32_142 c256_i32_143
  let c1_i32_144 : BitVec 32 := 1#32
  ⟨c0_i32_142, v304, c1_i32_144⟩
def k0_off6 (k0_t5 : Fin k0_t5_loop.trips) (c0_i32_286 : BitVec 32) : Fin 2 → Nat :=
  let c0_i32_142 : BitVec 32 := 0#32
  let c1_i32_144 : BitVec 32 := 1#32
  let arg6 : BitVec 32 := Scf.iv c0_i32_142 c1_i32_144 k0_t5
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t6_loop : Scf.Loop 32 :=
  let c0_i32_178 : BitVec 32 := 0#32
  let c256_i32_179 : BitVec 32 := 256#32
  let v372 : BitVec 32 := Scalar.addi c0_i32_178 c256_i32_179
  let c1_i32_180 : BitVec 32 := 1#32
  ⟨c0_i32_178, v372, c1_i32_180⟩
def k0_off7 (k0_t6 : Fin k0_t6_loop.trips) (c0_i32_286 : BitVec 32) : Fin 2 → Nat :=
  let c0_i32_178 : BitVec 32 := 0#32
  let c1_i32_180 : BitVec 32 := 1#32
  let arg6 : BitVec 32 := Scf.iv c0_i32_178 c1_i32_180 k0_t6
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t7_loop : Scf.Loop 32 :=
  let c0_i32_214 : BitVec 32 := 0#32
  let c256_i32_215 : BitVec 32 := 256#32
  let v440 : BitVec 32 := Scalar.addi c0_i32_214 c256_i32_215
  let c1_i32_216 : BitVec 32 := 1#32
  ⟨c0_i32_214, v440, c1_i32_216⟩
def k0_off8 (k0_t7 : Fin k0_t7_loop.trips) (c0_i32_286 : BitVec 32) : Fin 2 → Nat :=
  let c0_i32_214 : BitVec 32 := 0#32
  let c1_i32_216 : BitVec 32 := 1#32
  let arg6 : BitVec 32 := Scf.iv c0_i32_214 c1_i32_216 k0_t7
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
@[reducible] def k0_t8_loop : Scf.Loop 32 :=
  let c0_i32_250 : BitVec 32 := 0#32
  let c256_i32_251 : BitVec 32 := 256#32
  let v508 : BitVec 32 := Scalar.addi c0_i32_250 c256_i32_251
  let c1_i32_252 : BitVec 32 := 1#32
  ⟨c0_i32_250, v508, c1_i32_252⟩
def k0_off9 (k0_t8 : Fin k0_t8_loop.trips) (c0_i32_286 : BitVec 32) : Fin 2 → Nat :=
  let c0_i32_250 : BitVec 32 := 0#32
  let c1_i32_252 : BitVec 32 := 1#32
  let arg6 : BitVec 32 := Scf.iv c0_i32_250 c1_i32_252 k0_t8
  let c16_i32_285 : BitVec 32 := 16#32
  let v574 : BitVec 32 := Scalar.muli arg6 c16_i32_285
  let v575 : BitVec 32 := Scalar.addi v574 c0_i32_286
  let v576 : Index := Scalar.indexCast v575
  let c0_287 : Index := 0#32
  ![v576.toNat, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_285_r8 : BitVec 32 := 0#32
  let c0_i32_286_r8 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x1024 : Shape := ⟨3, ![4, 4096, 1024]⟩
abbrev S4x1024x4096 : Shape := ⟨3, ![4, 1024, 4096]⟩
abbrev S4x1024x16 : Shape := ⟨3, ![4, 1024, 16]⟩
abbrev S4x16384 : Shape := ⟨2, ![4, 16384]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024x4096, .f32⟩
  | .hbm, ⟨2, _⟩ => ⟨S4x1024x16, .f32⟩
  | .hbm, ⟨3, _⟩ => ⟨S4x1024x16, .i32⟩
  | .hbm, ⟨4, _⟩ => ⟨S4x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Network.lean ====
/-
  The kernel's two compare-exchange networks over any pair of binary operations: the bitonic sort of sixteen entries and
  the bitonic merge, as the library's networks (Lib/SortNet/Bitonic.lean) run with the operations the kernel uses in the
  place of the greater and the lesser.
-/
module

public import Idealize.ShloMosaic.Lib.SortNet.Fold

@[expose] public section

namespace Cert.Proof.TopK

open Idealize.ShloMosaic.SortNet

variable {α β : Type} {n : Nat}

/-- One compare-exchange with the operations `mx`, `mn` for the greater and the lesser, the entry at the earlier
    position always the first operand. -/
def exch (mx mn : α → α → α) (c : Cmpx n) (v : Fin n → α) : Fin n → α := fun k =>
  if k.val = c.lo.val then (if c.lo.val < c.hi.val then mn (v c.lo) (v c.hi) else mn (v c.hi) (v c.lo))
  else if k.val = c.hi.val then (if c.lo.val < c.hi.val then mx (v c.lo) (v c.hi) else mx (v c.hi) (v c.lo))
  else v k

/-- A network with the operations `mx`, `mn`. -/
def netG (mx mn : α → α → α) (N : Network n) (v : Fin n → α) : Fin n → α := N.foldl (fun v c => exch mx mn c v) v

/-- One trip of the kernel's loop on sixteen entries `R` kept so far and sixteen new ones `X`: `X` sorted descending, the
    greater of `R` and the reversed `X` at each position, and the result merged. -/
def step (mx mn : α → α → α) (R X : Fin 16 → α) : Fin 16 → α :=
  netG mx mn (mergeDescNet 4) fun j : Fin 16 => mx (R j) (netG mx mn (sortNet 4 true) X j.rev)

/-- A map that carries one pair of operations to another carries the exchange. -/
theorem exch_hom (mx mn : α → α → α) (mx' mn' : β → β → β) (h : α → β) (hx : ∀ a b, h (mx a b) = mx' (h a) (h b))
    (hn : ∀ a b, h (mn a b) = mn' (h a) (h b)) (c : Cmpx n) (v : Fin n → α) (k : Fin n) :
    h (exch mx mn c v k) = exch mx' mn' c (fun i => h (v i)) k := by
  unfold exch
  split
  · split <;> exact hn _ _
  · split
    · split <;> exact hx _ _
    · rfl

/-- … and the network. -/
theorem netG_hom (mx mn : α → α → α) (mx' mn' : β → β → β) (h : α → β) (hx : ∀ a b, h (mx a b) = mx' (h a) (h b))
    (hn : ∀ a b, h (mn a b) = mn' (h a) (h b)) (N : Network n) (v : Fin n → α) (k : Fin n) :
    h (netG mx mn N v k) = netG mx' mn' N (fun i => h (v i)) k := by
  unfold netG
  induction N generalizing v with
  | nil => rfl
  | cons c N ih =>
    rw [List.foldl_cons, List.foldl_cons, ih]
    exact congrArg (fun w => N.foldl (fun v c => exch mx' mn' c v) w k) (funext fun i => exch_hom mx mn mx' mn' h hx hn c v i)

/-- … and the trip. -/
theorem step_hom (mx mn : α → α → α) (mx' mn' : β → β → β) (h : α → β) (hx : ∀ a b, h (mx a b) = mx' (h a) (h b))
    (hn : ∀ a b, h (mn a b) = mn' (h a) (h b)) (R X : Fin 16 → α) (k : Fin 16) :
    h (step mx mn R X k) = step mx' mn' (fun i => h (R i)) (fun i => h (X i)) k := by
  unfold step
  refine (netG_hom mx mn mx' mn' h hx hn (mergeDescNet 4) _ k).trans ?_
  congr 1
  funext i
  rw [hx]
  congr 1
  exact netG_hom mx mn mx' mn' h hx hn (sortNet 4 true) X i.rev

/-- In a linear order with its greater and lesser the network is the library's. -/
theorem netG_eq_apply [LinearOrder α] (N : Network n) (v : Fin n → α) : netG max min N v = Network.apply N v := by
  unfold netG Network.apply
  congr 1
  funext v c k
  unfold exch Cmpx.apply
  simp only [Fin.ext_iff, min_comm (v c.hi), max_comm (v c.hi), ite_self]

/-- THE TRIP KEEPS THE SIXTEEN GREATEST: of sixteen entries `R` held descending and sixteen new ones, a trip leaves the
    sixteen greatest of the two together, descending. -/
theorem step_topList [LinearOrder α] (R X : Fin 16 → α) (hR : Antitone R) :
    Antitone (step max min R X) ∧ List.ofFn (step max min R X) = topList 16 (List.ofFn R ++ List.ofFn X) := by
  have e : step max min R X = Network.apply (mergeDescNet 4) fun j => max (R j) (Network.apply (sortNet 4 true) X (Fin.rev j)) := by
    unfold step; rw [netG_eq_apply, netG_eq_apply]; rfl
  have hC : Monotone fun j : Fin (2 ^ 4) => Network.apply (sortNet 4 true) X (Fin.rev j) := fun i j hij =>
    sortNet_apply_antitone 4 X (Fin.rev_le_rev.mpr hij)
  obtain ⟨h1, h2⟩ := foldStep 4 R (fun j => Network.apply (sortNet 4 true) X (Fin.rev j)) hR hC
  rw [← e] at h1 h2
  refine ⟨h1, h2.trans (topList_perm (List.Perm.append_left _ ?_))⟩
  obtain ⟨σ, hσ⟩ := Network.exists_perm (sortNet 4 true) X
  rw [hσ]
  exact Equiv.Perm.ofFn_comp_perm (Fin.revPerm.trans σ) X

end Cert.Proof.TopK

end
-- ==== Proof.Setup.lean ====
/-
  The kernel as the launch theorem sees it: the program's configuration, the resource algebra, the buffers.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Network

@[expose] public section

noncomputable section

namespace Cert.Proof.TopK

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the whole program, as the launch theorem sees it, -/
abbrev ΛP : Labels := Pipeline.Sig Λ₀ (Fin 0) fun p => (pcfgs (F := F) p).Adm
/-- the SparseCore configuration, -/
abbrev K : SparseCore.Cfg τ sig (ΛP (F := F)) 1 := sc (F := F)
/-- the bodies, -/
abbrev D [FloatOps F] : Defs nD τ sig (Elt F) (ΛP (F := F)) := Pipeline.defs pcfgs defs₀
/-- and the loops' variants: none is needed, -/
abbrev 𝒱₀ : Variants := Variants.none
/-- nor one for the whole program, -/
abbrev 𝒱 : Variants := 𝒱₀.lift
/-- whose bound is the trivial one. -/
abbrev v₀ : 𝒱.V := Sum.inl none

/-- What the launch theorem asks of the configuration, by computation. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

/-- The ghost state: the handshakes' rounds, -/
abbrev UH : Type := URounds (GSem nD τ sig) ℕ
/-- and the copies' counters. -/
abbrev UU : Type := UH × Counters

local notation "𝕄" => MT nD τ sig (HIx 1) (Elt F) ℕ UU ℕ

/-- The handshakes' part of it. -/
abbrev EH : Emb UH (MT nD τ sig (HIx 1) (Elt F) ℕ UU ℕ) := embL

/-! ## The buffers -/

variable (m : (ℓ : Loc nD τ sig) → Buf (Elt F) ℓ) (ρ : Dev nD → PrngReg)

/-- The argument `x` and the kernel's result `out`, as locations of device `d`. -/
abbrev xLoc (d : Dev nD) : Loc nD τ sig := (SparseCore.T d).loc main_arg0
/-- The kernel's result array. -/
abbrev oLoc (d : Dev nD) : Loc nD τ sig := (SparseCore.T d).loc main_v0

/-- The same arrays and a tile's two scratch buffers as the tile addresses them. -/
abbrev xV : Memref sig .scVector .hbm S4x4096x1024 .f32 := Memref.whole main_arg0_scv
/-- The kernel's result as a tile names it, -/
abbrev oV : Memref sig .scVector .hbm S32x16x128 .f32 := Memref.whole main_v0_scv
/-- the scratch for fetched columns, -/
abbrev sB : Memref sig .scVector .vmem S4096x16 .f32 := Memref.whole cc0_scratch0
/-- and the scratch for the row of the result. -/
abbrev sR : Memref sig .scVector .vmem S16x128 .f32 := Memref.whole cc0_scratch1

/-- The tile at launch coordinates `L`: SparseCore `L 0`, vector subcore `L 1`. -/
abbrev cV (L : grid0.Coords) : Fin τ.nSC := (L 0).castLE hcore0
/-- A tile's number. -/
abbrev jV (L : grid0.Coords) : Fin τ.nSub := (L 1).castLE hsub0

end Cert.Proof.TopK

end
-- ==== Proof.Trips.lean ====
/-
  One trip of the kernel's loop.
-/
module

public import proofs.«01_k».proof.Proof.Setup

@[expose] public section

noncomputable section

namespace Cert.Proof.TopK

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop's carried values, as one function of the position. -/
abbrev T16 (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- A function of the position as the tuple a loop carries. -/
def tup {α : Type} (v : Fin 16 → α) : α × α × α × α × α × α × α × α × α × α × α × α × α × α × α × α :=
  (v 0, v 1, v 2, v 3, v 4, v 5, v 6, v 7, v 8, v 9, v 10, v 11, v 12, v 13, v 14, v 15)

/-- Row `j` of block `t` of the fetched columns, as the loop's trip `t` loads it. -/
def rowOf (f : FVec F S4096x16 .f32) (t : Fin k0_t1_loop.trips) (j : Fin 16) : FVec F S16 .f32 :=
  shapeCast S16 (sB.view.readAt (Elt F) (Rect.unit (s := S4096x16) (k0_off2 t (BitVec.ofNat 32 j.val)) S1x16.size (k0_off2_inb t j)).toLoadRect f) (Facts₀.shapeCasts_S1x16_S16)

/-- One trip of the loop takes the sixteen vectors to those of `step` with the block's sixteen rows, and only reads the fetched columns. -/
theorem trip (d : Dev nD) (L : grid0.Coords) (t : Fin k0_t1_loop.trips) (R : Fin 16 → FVec F S16 .f32)
    (f : Buf (Elt F) ((V d (cV L) (jV L)).loc cc0_scratch0)) (v574_r0 : DmaSems sig S_) (v574_r1 : DmaSems sig S_) (v574_r2 : DmaSems sig S_) (v574_r3 : DmaSems sig S_) (v574_r4 : DmaSems sig S_) (v574_r5 : DmaSems sig S_) (v574_r6 : DmaSems sig S_) (v574_r7 : DmaSems sig S_) (v574_r8 : DmaSems sig S_) :
    (sB.view.loc (V d (cV L) (jV L)) ↦{fullShare} f : sProp 𝕄)
      ⊢ wp frame (wpE (defs₀ (F := F)) 𝒱₀ (V d (cV L) (jV L)) none) Set.univ
          (k0_t1_body L xV (Memref.isWhole_whole _) oV (Memref.isWhole_whole _) sB (Memref.isWhole_whole _) sR (Memref.isWhole_whole _) v574_r0 v574_r1 v574_r2 v574_r3 v574_r4 v574_r5 v574_r6 v574_r7 v574_r8 t (tup R))
          fun r => iprop(⌜r = tup (step maximumf minimumf R (rowOf f t))⌝ ∗ sB.view.loc (V d (cV L) (jV L)) ↦{fullShare} f) := by
  unfold k0_t1_body tup
  iintro H
  sl_exec
  sl_step
  isplitr
  · ipureintro
    sl_kernel_rfl
  · iexact H

/-- The sixteen rows of block `k`; past the last block, of the first. -/
def rowN (f : FVec F S4096x16 .f32) (k : ℕ) (j : Fin 16) : FVec F S16 .f32 :=
  rowOf f (if h : k < k0_t1_loop.trips then ⟨k, h⟩ else ⟨0, by decide⟩) j

/-- The sixteen vectors held after `n` trips over the fetched columns `f`. -/
def accN (f : FVec F S4096x16 .f32) : ℕ → Fin 16 → FVec F S16 .f32
  | 0 => fun _ => k0_pay1609
  | n + 1 => step maximumf minimumf (accN f n) (rowN f n)

/-- The loop of one column group: from the fetched columns `f` it returns the sixteen vectors after 256 trips. -/
theorem loop (d : Dev nD) (L : grid0.Coords)
    (f : Buf (Elt F) ((V d (cV L) (jV L)).loc cc0_scratch0)) (v574_r0 v574_r1 v574_r2 v574_r3 v574_r4 v574_r5 v574_r6 v574_r7 v574_r8 : DmaSems sig S_) :
    (sB.view.loc (V d (cV L) (jV L)) ↦{fullShare} f : sProp 𝕄)
      ⊢ wp frame (wpE (defs₀ (F := F)) 𝒱₀ (V d (cV L) (jV L)) none) Set.univ
          (Scf.Loop.for k0_t1_loop k0_t1_ok (tup fun _ => k0_pay1609 (F := F)) (k0_t1_body L xV (Memref.isWhole_whole _) oV (Memref.isWhole_whole _) sB (Memref.isWhole_whole _) sR (Memref.isWhole_whole _) v574_r0 v574_r1 v574_r2 v574_r3 v574_r4 v574_r5 v574_r6 v574_r7 v574_r8))
          fun r => iprop(⌜r = tup (accN f 256)⌝ ∗ sB.view.loc (V d (cV L) (jV L)) ↦{fullShare} f) := by
  iintro H
  sl_for (fun (n : ℕ) (r : T16 F) => (iprop(⌜r = tup (accN f n)⌝ ∗ sB.view.loc (V d (cV L) (jV L)) ↦{fullShare} f) : sProp 𝕄)) $$ [H]
  case region =>
    intro k r
    iintro ⟨%hr, H⟩
    subst hr
    ihave Hw := (trip d L k (accN f k.val) f v574_r0 v574_r1 v574_r2 v574_r3 v574_r4 v574_r5 v574_r6 v574_r7 v574_r8) $$ H
    have e : rowN f k.val = rowOf f k := by
      funext j; unfold rowN; rw [dif_pos k.isLt]
    rw [← e]
    iexact Hw
  · isplitl [H]
    · isplitr
      · ipureintro; rfl
      · iexact H
    · rw [show Scf.trips k0_t1_loop.lb k0_t1_loop.ub k0_t1_loop.st = 256 by decide +kernel]
      iintro %acc H
      iexact H

/-- The sixteen vectors a column group leaves: those after the loop's 256 trips over the fetched columns `p`. -/
@[irreducible] def accOf (p : FVec F S4096x16 .f32) (j : Fin 16) : FVec F S16 .f32 := accN p 256 j

/-- A fetch that overwrites the whole scratch leaves what it fetched. -/
theorem fetched (p : S4096x16.Idx → Elt F .f32) (l : List (View.Piece (Elt F) S4096x16 .f32)) :
    sB.view.writes (Elt F) sB.view.junk (⟨Rect.whole S4096x16, p⟩ :: l) = p := by
  have h : ∀ y, sB.view.read (Elt F) (sB.view.writes (Elt F) sB.view.junk (⟨Rect.whole S4096x16, p⟩ :: l)) y = p y := fun y => by
    have h := View.read_writes_cons_emb (Val := Elt F) sB.view sB.view.junk (Rect.whole S4096x16) p l y
    rwa [Rect.emb_whole_apply] at h
  simp only [Memref.view_whole, View.read_whole] at h
  exact funext h

/-- A column group's loop inside the kernel: any program `P` equal to the loop, followed by `k`. -/
theorem loop_bind (d : Dev nD) (L : grid0.Coords) (v574_r0 v574_r1 v574_r2 v574_r3 v574_r4 v574_r5 v574_r6 v574_r7 v574_r8 : DmaSems sig S_) {β : Type} {Q : β → sProp 𝕄}
    (p : FVec F S4096x16 .f32) (l : List (View.Piece (Elt F) S4096x16 .f32)) (P : Prog (TpuEff nD τ sig (Elt F) Λ₀ (.scVector (cV L) (jV L))) (T16 F))
    (k : T16 F → Prog (TpuEff nD τ sig (Elt F) Λ₀ (.scVector (cV L) (jV L))) β)
    (hP : P = Scf.Loop.for k0_t1_loop k0_t1_ok (tup fun _ => k0_pay1609 (F := F)) (k0_t1_body L xV (Memref.isWhole_whole _) oV (Memref.isWhole_whole _) sB (Memref.isWhole_whole _) sR (Memref.isWhole_whole _) v574_r0 v574_r1 v574_r2 v574_r3 v574_r4 v574_r5 v574_r6 v574_r7 v574_r8)) :
    iprop((sB.view.loc (V d (cV L) (jV L)) ↦[sB.view.set]{fullShare} sB.view.writes (Elt F) sB.view.junk (⟨Rect.whole S4096x16, p⟩ :: l))
        ∗ ((sB.view.loc (V d (cV L) (jV L)) ↦[sB.view.set]{fullShare} sB.view.writes (Elt F) sB.view.junk [⟨Rect.whole S4096x16, p⟩])
            -∗ wp frame (wpE (defs₀ (F := F)) 𝒱₀ (V d (cV L) (jV L)) none) Set.univ (k (accOf p 0, accOf p 1, accOf p 2, accOf p 3, accOf p 4, accOf p 5, accOf p 6, accOf p 7, accOf p 8, accOf p 9, accOf p 10, accOf p 11, accOf p 12, accOf p 13, accOf p 14, accOf p 15)) Q))
      ⊢ wp frame (wpE (defs₀ (F := F)) 𝒱₀ (V d (cV L) (jV L)) none) Set.univ (P >>= k) Q := by
  subst hP
  rw [fetched p l, fetched p [], show (sB.view.set : Finset _) = Finset.univ by simp only [Memref.view_whole, View.set_whole]]
  rw [wp_bind]
  iintro ⟨H, Hk⟩
  iapply (wp_wand_r frame _ _)
  isplitl [H]
  · iapply (loop d L p v574_r0 v574_r1 v574_r2 v574_r3 v574_r4 v574_r5 v574_r6 v574_r7 v574_r8) $$ H
  · iintro %r ⟨%hr, H⟩
    subst hr
    rw [show tup (accN p 256) = (accOf p 0, accOf p 1, accOf p 2, accOf p 3, accOf p 4, accOf p 5, accOf p 6, accOf p 7, accOf p 8, accOf p 9, accOf p 10, accOf p 11, accOf p 12, accOf p 13, accOf p 14, accOf p 15) by unfold accOf; rfl]
    iapply Hk $$ H

end Cert.Proof.TopK

end
-- ==== Proof.Run.lean ====
/-
  One tile's whole run: the eight fetches, the eight loops, the stores and the write-out.
-/
module

public import proofs.«01_k».proof.Proof.Trips

@[expose] public section

noncomputable section

namespace Cert.Proof.TopK

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-- Row `2 s + c` of the result, as tile `(c, s)` addresses it. -/
abbrev oRow (L : grid0.Coords) : Memref sig .scVector .hbm S16x128 .f32 :=
  (oV.slice (Rect.unit (s := S32x16x128) (k0_off10 L) S1x16x128.size (k0_off10_inb L)) (fun _ => rfl)).squeeze S16x128 Facts₀.squeezes_S1x16x128_S16x128

/-- The 4096 × 16 block of `x` that tile `L` fetches for its column group `g`. -/
def colsOf (L : grid0.Coords) (x : S4x4096x1024.Idx → Elt F .f32) (g : Fin 8) : S4096x16.Idx → Elt F .f32 :=
  ((xV.slice (Rect.unit (s := S4x4096x1024) (k0_off1 L (BitVec.ofNat 32 (16 * g.val))) S1x4096x16.size (k0_off1_inb L g)) (fun _ => rfl)).squeeze S4096x16
    Facts₀.squeezes_S1x4096x16_S4096x16).view.read (Elt F) x

/-- A stored vector lies inside the result scratch. -/
theorem piece_inb (g : Fin 8) (j : Fin 16) : ∀ a, (![j.val, 16 * g.val] : Fin 2 → Nat) a + S1x16.size a ≤ S16x128.size a :=
  Fin.forall_fin_two.mpr ⟨by show j.val + 1 ≤ 16; omega, by show 16 * g.val + 16 ≤ 128; omega⟩

/-- The store of column group `g`'s vector `j` into the result scratch. -/
def pieceOf (L : grid0.Coords) (x : S4x4096x1024.Idx → Elt F .f32) (g : Fin 8) (j : Fin 16) : View.Piece (Elt F) S16x128 .f32 :=
  ⟨Rect.unit ![j.val, 16 * g.val] S1x16.size (piece_inb g j), shapeCast S1x16 (accOf (colsOf L x g) j) Facts₀.shapeCasts_S16_S1x16⟩

/-- The stores a tile makes into the result scratch, the last first. -/
def pieces (L : grid0.Coords) (x : S4x4096x1024.Idx → Elt F .f32) : List (View.Piece (Elt F) S16x128 .f32) :=
  (List.finRange 8).reverse.flatMap fun g => (List.finRange 16).reverse.map fun j => pieceOf L x g j

set_option maxHeartbeats 2000000 in
/-- The kernel on one tile: from a read share of `x` it ends with the tile's row holding what its stores left in the result scratch, every semaphore back at zero. -/
theorem run (d : Dev nD) (L : grid0.Coords) (q : PosShare TreeShare) (O : CellTallies nD τ sig (HIx 1)) (W : Waits sig (HIx 1))
   (fx : Buf (Elt F) (xLoc d)) (fo : Buf (Elt F) (oLoc d)) (f : Buf (Elt F) ((V d (cV L) (jV L)).loc cc0_scratch0)) (g : Buf (Elt F) ((V d (cV L) (jV L)).loc cc0_scratch1)) :
    iprop((Transfers.MayWaits (V d (cV L) (jV L)) (none : HIx 1) O : sProp 𝕄)
        ∗ (xV.view.loc (V d (cV L) (jV L)) ↦[xV.view.set]{q} fx)
        ∗ ((oRow L).view.loc (V d (cV L) (jV L)) ↦[(oRow L).view.set]{fullShare} fo)
        ∗ (sB.view.loc (V d (cV L) (jV L)) ↦[sB.view.set]{fullShare} f)
        ∗ (sR.view.loc (V d (cV L) (jV L)) ↦{fullShare} g)
        ∗ semVal (V d (cV L) (jV L), SemLoc.dma cc0_scoped0.sem) 0
        ∗ semVal (V d (cV L) (jV L), SemLoc.dma cc0_scoped1.sem) 0
        ∗ semVal (V d (cV L) (jV L), SemLoc.dma cc0_scoped2.sem) 0
        ∗ semVal (V d (cV L) (jV L), SemLoc.dma cc0_scoped3.sem) 0
        ∗ semVal (V d (cV L) (jV L), SemLoc.dma cc0_scoped4.sem) 0
        ∗ semVal (V d (cV L) (jV L), SemLoc.dma cc0_scoped5.sem) 0
        ∗ semVal (V d (cV L) (jV L), SemLoc.dma cc0_scoped6.sem) 0
        ∗ semVal (V d (cV L) (jV L), SemLoc.dma cc0_scoped7.sem) 0
        ∗ semVal (V d (cV L) (jV L), SemLoc.dma cc0_scoped8.sem) 0
        ∗ owes (V d (cV L) (jV L)) O W)
      ⊢ wp frame (wpE (defs₀ (F := F)) 𝒱₀ (V d (cV L) (jV L)) none) Set.univ
          (cc0_k L xV (Memref.isWhole_whole _) oV (Memref.isWhole_whole _) sB (Memref.isWhole_whole _) sR (Memref.isWhole_whole _) cc0_scoped0 cc0_scoped1 cc0_scoped2 cc0_scoped3 cc0_scoped4 cc0_scoped5 cc0_scoped6 cc0_scoped7 cc0_scoped8)
          fun _ => iprop((xV.view.loc (V d (cV L) (jV L)) ↦[xV.view.set]{q} fx)
            ∗ ((oRow L).view.loc (V d (cV L) (jV L)) ↦[(oRow L).view.set]{fullShare}
                (oRow L).view.writes (Elt F) fo [⟨Rect.whole S16x128, sR.view.read (Elt F) (sR.view.writes (Elt F) g (pieces L fx))⟩])
            ∗ (∃ f, sB.view.loc (V d (cV L) (jV L)) ↦[sB.view.set]{fullShare} f)
            ∗ (∃ g, sR.view.loc (V d (cV L) (jV L)) ↦{fullShare} g)
            ∗ semVal (V d (cV L) (jV L), SemLoc.dma cc0_scoped0.sem) 0
            ∗ semVal (V d (cV L) (jV L), SemLoc.dma cc0_scoped1.sem) 0
            ∗ semVal (V d (cV L) (jV L), SemLoc.dma cc0_scoped2.sem) 0
            ∗ semVal (V d (cV L) (jV L), SemLoc.dma cc0_scoped3.sem) 0
            ∗ semVal (V d (cV L) (jV L), SemLoc.dma cc0_scoped4.sem) 0
            ∗ semVal (V d (cV L) (jV L), SemLoc.dma cc0_scoped5.sem) 0
            ∗ semVal (V d (cV L) (jV L), SemLoc.dma cc0_scoped6.sem) 0
            ∗ semVal (V d (cV L) (jV L), SemLoc.dma cc0_scoped7.sem) 0
            ∗ semVal (V d (cV L) (jV L), SemLoc.dma cc0_scoped8.sem) 0
            ∗ ∃ W', ⌜∀ p ∈ W', p ∈ W ∨ p.2 = none⌝ ∗ owes (V d (cV L) (jV L)) O W') := by
  rw [cc0_k_eq_skeleton]; unfold cc0_k_skel
  iintro ⟨Hmw, Hx, Ho, HB, HR, Hs0, Hs1, Hs2, Hs3, Hs4, Hs5, Hs6, Hs7, Hs8, HO⟩
  sl_exec (disch := exact View.amount_pos _ _ (show 0 < S4096x16.numel by decide))
  iterate 8
    iapply (loop_bind d L cc0_scoped0 cc0_scoped1 cc0_scoped2 cc0_scoped3 cc0_scoped4 cc0_scoped5 cc0_scoped6 cc0_scoped7 cc0_scoped8 _ _ _ _ ?hP) $$ [HB HO Hmw Hx Ho HR Hs0 Hs1 Hs2 Hs3 Hs4 Hs5 Hs6 Hs7 Hs8]
    case hP => sl_kernel_rfl
    isplitl [HB]
    · iexact HB
    iintro HB
    sl_exec (disch := exact View.amount_pos _ _ (show 0 < S4096x16.numel by decide))
  sl_step
  isplitl [Hx]; · iexact Hx
  isplitl [Ho]
  · rw [show (sR.view.read (Elt F) (sR.view.writes (Elt F) g (pieces L fx)) : S16x128.Idx → Elt F .f32) = run.sl.dma32_7 d L fx g by sl_kernel_rfl]
    iexact Ho
  isplitl [HB]; · iexists _; iexact HB
  isplitl [HR]; · iexists _; iexact HR
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iexists _; isplitr
  swap; · iexact HO
  ipureintro
  intro p hp
  simp only [Finset.mem_insert] at hp
  rcases hp with hp | hp | hp | hp | hp | hp | hp | hp | hp | hp
  all_goals first | exact .inl hp | exact .inr (hp ▸ rfl)

end Cert.Proof.TopK

end
-- ==== Proof.Rows.lean ====
/-
  What one tile leaves in its row of the result, and how the rows make up the whole array.
-/
module

public import proofs.«01_k».proof.Proof.Run
public import Idealize.ShloMosaic.Lib.ValueLayout
public import Idealize.ShloMosaic.Lib.ValueIdxCoords

@[expose] public section

noncomputable section

namespace Cert.Proof.TopK

open Cert.KernelIdeal Cert.KernelIdeal.Gen

open Idealize.ShloMosaic
open Idealize.ShloMosaic.ValueIdx
open Idealize.ShloMosaic.SparseCore (S V T)

variable {F : FTy → Type} [FloatOps F]

/-! ## The contents of a tile's result scratch -/

/-- Column `16 g + l` lies in column group `g`. -/
def grp (c : Fin 128) : Fin 8 := ⟨c.val / 16, by omega⟩
/-- and in lane `l` of it. -/
def lane (c : Fin 128) : Fin 16 := ⟨c.val % 16, by omega⟩

/-- The row of the result tile `L` writes: place `(j, 16 g + l)` holds lane `l` of the `j`-th register after the loop over
    column group `g`. -/
def rowOut (L : grid0.Coords) (x : S4x4096x1024.Idx → Elt F .f32) : S16x128.Idx → Elt F .f32 :=
  fun y => accOf (colsOf L x (grp (y 1))) (y 0) (ix1 (lane (y 1)))

omit [FloatOps F] in
/-- Where place `l` of a stored vector lies in the result scratch. -/
theorem emb_piece (g : Fin 8) (j : Fin 16) (a : Fin 1) (l : Fin 16) :
    (Rect.unit (s := S16x128) ![j.val, 16 * g.val] S1x16.size (piece_inb g j)).emb (ix2 a l) = ix2 j (⟨16 * g.val + l.val, by omega⟩ : Fin 128) := by
  funext k
  apply Fin.ext
  match k with
  | 0 => show j.val + 1 * a.val = j.val; omega
  | 1 => show 16 * g.val + 1 * l.val = 16 * g.val + l.val; omega

/-- Each stored piece is the corresponding part of the row. -/
theorem pieceOf_eq (L : grid0.Coords) (x : S4x4096x1024.Idx → Elt F .f32) (g : Fin 8) (j : Fin 16) (z : S1x16.Idx) :
    (pieceOf L x g j).2 z = rowOut L x ((Rect.unit (s := S16x128) ![j.val, 16 * g.val] S1x16.size (piece_inb g j)).emb z) := by
  obtain ⟨a, l, rfl⟩ : ∃ (a : Fin 1) (l : Fin 16), z = ix2 a l := ⟨_, _, eq_ix2 z⟩
  refine Eq.trans ?_ (congrArg (rowOut L x) (emb_piece g j a l)).symm
  have hg : grp (⟨16 * g.val + l.val, by omega⟩ : Fin 128) = g := Fin.ext (by show (16 * g.val + l.val) / 16 = _; omega)
  have hl : lane (⟨16 * g.val + l.val, by omega⟩ : Fin 128) = l := Fin.ext (by show (16 * g.val + l.val) % 16 = _; omega)
  show shapeCast S1x16 (accOf (colsOf L x g) j) Facts₀.shapeCasts_S16_S1x16 (ix2 a l) = accOf (colsOf L x (grp _)) j (ix1 (lane _))
  rw [hg, hl]
  refine shapeCast_apply _ _ _ _ ?_
  rw [Shape.rowMajor_val_one, Shape.rowMajor_val_two]
  show l.val = a.val * 16 + l.val
  omega

/-- The stores are those of every column group and vector. -/
theorem mem_pieces {L : grid0.Coords} {x : S4x4096x1024.Idx → Elt F .f32} {p : View.Piece (Elt F) S16x128 .f32} :
    p ∈ pieces L x ↔ ∃ g j, p = pieceOf L x g j := by
  unfold pieces
  simp only [List.mem_flatMap, List.mem_reverse, List.mem_finRange, true_and, List.mem_map]
  exact ⟨fun ⟨g, j, h⟩ => ⟨g, j, h.symm⟩, fun ⟨g, j, h⟩ => ⟨g, j, h.symm⟩⟩

/-- After a tile's stores its result scratch reads as the row. -/
theorem scratch_eq (L : grid0.Coords) (x : S4x4096x1024.Idx → Elt F .f32) (g : S16x128.Idx → Elt F .f32) :
    (sR.view.read (Elt F) (sR.view.writes (Elt F) g (pieces L x)) : S16x128.Idx → Elt F .f32) = rowOut L x := by
  funext y
  obtain ⟨a, b, rfl⟩ : ∃ (a : Fin 16) (b : Fin 128), y = ix2 a b := ⟨_, _, eq_ix2 y⟩
  refine View.read_writes_apply_of_pieces sR.view g (rowOut L x) (pieces L x) ?_ _ ?_
  · intro p hp
    obtain ⟨g, j, rfl⟩ := mem_pieces.mp hp
    exact pieceOf_eq L x g j
  · refine ⟨pieceOf L x (grp b) a, mem_pieces.mpr ⟨_, _, rfl⟩, ?_⟩
    have e : (Rect.unit (s := S16x128) ![a.val, 16 * (grp b).val] S1x16.size (piece_inb (grp b) a)).emb (ix2 0 (lane b)) = ix2 a b := by
      refine (emb_piece (grp b) a 0 (lane b)).trans ?_
      funext k
      apply Fin.ext
      match k with
      | 0 => rfl
      | 1 => show 16 * (b.val / 16) + b.val % 16 = b.val; omega
    exact e ▸ LoadRect.idx_mem _ _

/-! ## The rows of the result -/

/-- The row of tile `L`. -/
def wOf (L : grid0.Coords) : Fin 32 :=
  ⟨2 * (L 1).val + (L 0).val, by have h0 : (L 0).val < 2 := (L 0).isLt; have h1 : (L 1).val < 16 := (L 1).isLt; omega⟩

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile of row `w`. -/
def Lof (w : Fin 32) : grid0.Coords := coordsV (⟨w.val % 2, by show w.val % 2 < 2; omega⟩) (⟨w.val / 2, by show w.val / 2 < 16; omega⟩)

/-- A tile's row is that tile's. -/
theorem Lof_wOf (L : grid0.Coords) : Lof (wOf L) = L := by
  have h0 : (L 0).val < 2 := (L 0).isLt
  funext a
  apply Fin.ext
  match a with
  | 0 => show (2 * (L 1).val + (L 0).val) % 2 = (L 0).val; omega
  | 1 => show (2 * (L 1).val + (L 0).val) / 2 = (L 1).val; omega

/-- The kernel's result: row `w` is what its tile writes. -/
def outG (x : S4x4096x1024.Idx → Elt F .f32) : S32x16x128.Idx → Elt F .f32 :=
  fun y => rowOut (Lof (y 0)) x (ix2 (y 1) (y 2))

omit [FloatOps F] in
/-- Where place `(a, b)` of a tile's row lies. -/
theorem emb_oRow (L : grid0.Coords) (a : Fin 16) (b : Fin 128) : (oRow L).view.emb (ix2 a b) = ix3 (wOf L) a b := by
  show (Rect.unit (s := S32x16x128) (k0_off10 L) S1x16x128.size (k0_off10_inb L)).emb (Shape.reshapeEquiv _ (ix2 a b)) = _
  rw [reshapeEquiv_ix2_1ab]
  funext k
  apply Fin.ext
  have h := k0_off10_eq L
  match k with
  | 0 => show k0_off10 L 0 + 1 * 0 = 2 * (L 1).val + (L 0).val; rw [h]; rfl
  | 1 => show k0_off10 L 1 + 1 * a.val = a.val; rw [h]; show 0 + 1 * a.val = a.val; omega
  | 2 => show k0_off10 L 2 + 1 * b.val = b.val; rw [h]; show 0 + 1 * b.val = b.val; omega

/-- The elements of row `w`. -/
def rowSet (w : Fin 32) : Finset S32x16x128.Idx := Finset.univ.filter fun y => (y 0).val = w.val

/-- The elements of a view are those it addresses. -/
theorem mem_view_set {sp : Space} {s : Shape} {e : EltTy} (v : View sig .scVector sp s e) (y : v.ty.Idx) : y ∈ v.set ↔ ∃ z, v.emb z = y := by
  unfold View.set
  simp

omit [FloatOps F] in
/-- A tile copies out to exactly its row. -/
theorem set_oRow (L : grid0.Coords) : (oRow L).view.set = rowSet (wOf L) := by
  ext y
  rw [mem_view_set]
  unfold rowSet
  rw [Finset.mem_filter]
  constructor
  · rintro ⟨z, rfl⟩
    obtain ⟨a, b, rfl⟩ : ∃ (a : Fin 16) (b : Fin 128), z = ix2 a b := ⟨_, _, eq_ix2 z⟩
    exact ⟨Finset.mem_univ _, congrArg (fun y : S32x16x128.Idx => (y 0).val) (emb_oRow L a b)⟩
  · rintro ⟨-, h⟩
    refine ⟨ix2 (y 1) (y 2), (emb_oRow L _ _).trans ?_⟩
    rw [show wOf L = y 0 from Fin.ext h.symm]
    exact (eq_ix3 y).symm

/-- On its row, what a tile writes out is the kernel's result. -/
theorem writes_oRow (L : grid0.Coords) (x : S4x4096x1024.Idx → Elt F .f32) (fo : S32x16x128.Idx → Elt F .f32) :
    ∀ y ∈ rowSet (wOf L), (oRow L).view.writes (Elt F) fo [⟨Rect.whole S16x128, rowOut L x⟩] y = outG x y := by
  intro y hy
  rw [← set_oRow, mem_view_set] at hy
  obtain ⟨z, rfl⟩ := hy
  have h := congrFun (View.read_writes_whole (Val := Elt F) (oRow L).view fo (rowOut L x)) z
  refine Eq.trans h ?_
  obtain ⟨a, b, rfl⟩ : ∃ (a : Fin 16) (b : Fin 128), z = ix2 a b := ⟨_, _, eq_ix2 z⟩
  refine Eq.trans ?_ (congrArg (outG x) (emb_oRow L a b)).symm
  show _ = rowOut (Lof (wOf L)) x (ix2 a b)
  rw [Lof_wOf]

/-- The elements SparseCore `c` writes. -/
def coreSet (c : Fin 2) : Finset S32x16x128.Idx := Finset.univ.filter fun y => (y 0).val % 2 = c.val

/-- The row of vector subcore `s` of SparseCore `c`. -/
def wAt (c : Fin 2) (s : Fin 16) : Fin 32 := ⟨2 * s.val + c.val, by omega⟩

/-- The two SparseCores' rows are apart, -/
theorem cores_disjoint : ∀ c ∈ (Finset.univ : Finset (Fin 2)), ∀ c' ∈ (Finset.univ : Finset (Fin 2)), c ≠ c' → Disjoint (coreSet c) (coreSet c') := by
  intro c _ c' _ h
  rw [Finset.disjoint_left]
  intro y hy hy'
  have e : (y 0).val % 2 = c.val := (Finset.mem_filter.mp hy).2
  have e' : (y 0).val % 2 = c'.val := (Finset.mem_filter.mp hy').2
  exact h (Fin.ext (e.symm.trans e'))

/-- and together they are the whole result. -/
theorem cores_cover : (Finset.univ : Finset (Fin 2)).biUnion coreSet = Finset.univ := by
  ext y
  simp only [Finset.mem_biUnion, Finset.mem_univ, true_and, iff_true]
  exact ⟨⟨(y 0).val % 2, by omega⟩, Finset.mem_filter.mpr ⟨Finset.mem_univ _, rfl⟩⟩

/-- The rows of one SparseCore's tiles are apart, -/
theorem rows_disjoint (c : Fin 2) : ∀ s ∈ (Finset.univ : Finset (Fin 16)), ∀ s' ∈ (Finset.univ : Finset (Fin 16)), s ≠ s' → Disjoint (rowSet (wAt c s)) (rowSet (wAt c s')) := by
  intro s _ s' _ h
  rw [Finset.disjoint_left]
  intro y hy hy'
  have e : (y 0).val = 2 * s.val + c.val := (Finset.mem_filter.mp hy).2
  have e' : (y 0).val = 2 * s'.val + c.val := (Finset.mem_filter.mp hy').2
  exact h (Fin.ext (by omega))

/-- and together they are that SparseCore's rows. -/
theorem rows_cover (c : Fin 2) : (Finset.univ : Finset (Fin 16)).biUnion (fun s => rowSet (wAt c s)) = coreSet c := by
  ext y
  simp only [Finset.mem_biUnion, Finset.mem_univ, true_and]
  unfold rowSet coreSet
  simp only [Finset.mem_filter, Finset.mem_univ, true_and]
  have hy : (y 0).val < 32 := (y 0).isLt
  constructor
  · rintro ⟨s, h⟩
    have h' : (y 0).val = 2 * s.val + c.val := h
    omega
  · intro h
    exact ⟨⟨(y 0).val / 2, by omega⟩, by show (y 0).val = 2 * ((y 0).val / 2) + c.val; omega⟩

end Cert.Proof.TopK

end
-- ==== Proof.Launch.lean ====
/-
  The launch: what the call hands the SparseCores and their tiles, what they bring back, and the whole program's run.
-/
module

public import proofs.«01_k».proof.Proof.Rows

@[expose] public section

noncomputable section

namespace Cert.Proof.TopK

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.StableHlo (held wp_hlo_within)
open Idealize.ShloMosaic.Transfers (dealOf pointsTo_deal)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- SparseCore `c`'s read share of `x`, -/
def xqC (c : Fin 2) : PosShare TreeShare := dealOf fullShare (Finset.univ : Finset (Fin 2)) c
/-- and of it, tile `s`'s. -/
def xqT (c : Fin 2) (s : Fin 16) : PosShare TreeShare := dealOf (xqC c) (Finset.univ : Finset (Fin 16)) s

/-- The result array's final contents: the kernel's result of the launch contents of `x`. -/
def outD (d : Dev nD) : Buf (Elt F) (oLoc d) := outG (F := F) (m (xLoc d))

/-- SparseCore `c`'s part of the operands: a read share of `x`, and its rows of the result, at `f`. -/
def forCore (d : Dev nD) (c : Fin 2) (f : Buf (Elt F) (oLoc d)) : sProp 𝕄 :=
  iprop((xLoc d ↦{xqC c} m (xLoc d)) ∗ oLoc d ↦[coreSet c]{fullShare} f)

/-- Tile `(c, s)`'s part: a read share of `x`, and its row of the result, at `f`. -/
def forTile (d : Dev nD) (c : Fin 2) (s : Fin 16) (f : Buf (Elt F) (oLoc d)) : sProp 𝕄 :=
  iprop((xLoc d ↦{xqT c s} m (xLoc d)) ∗ oLoc d ↦[rowSet (wAt c s)]{fullShare} f)

/-- A SparseCore's part may be kept under an invariant, -/
instance forCore_storable (d : Dev nD) (c : Fin 2) (f : Buf (Elt F) (oLoc d)) : BI.Storable (upEmb : UEmb _ 𝕄) (forCore m d c f) := by
  unfold forCore; infer_instance
/-- and so may a tile's. -/
instance forTile_storable (d : Dev nD) (c : Fin 2) (s : Fin 16) (f : Buf (Elt F) (oLoc d)) : BI.Storable (upEmb : UEmb _ 𝕄) (forTile m d c s f) := by
  unfold forTile; infer_instance

omit [FloatOps F] in
/-- The call uses two SparseCores, -/
theorem nCore_zero : (K (F := F)).nCore 0 = 2 := rfl
omit [FloatOps F] in
/-- of sixteen tiles each. -/
theorem nSub_zero : (K (F := F)).nSub 0 = 16 := rfl

/-- The one call takes each SparseCore's part at the launch contents and brings it back with the rows computed. -/
def P : (K (F := F)).Pay (nD := nD) (Val := Elt F) (Name := ℕ) (U := UU) where
  st := fun q d c => match q with | 0 => forCore m d (Fin.cast nCore_zero c) (m (oLoc d))
  dn := fun q d c => match q with | 0 => forCore m d (Fin.cast nCore_zero c) (outD m d)
  go := fun q d c i => match q with | 0 => forTile m d (Fin.cast nCore_zero c) (Fin.cast nSub_zero i) (m (oLoc d))
  td := fun q d c i => match q with | 0 => forTile m d (Fin.cast nCore_zero c) (Fin.cast nSub_zero i) (outD m d)
  x := fun _ _ => iprop(emp)

/-- All that the handshakes carry may be kept under an invariant. -/
instance P_storable : (P (F := F) m).IsStorable where
  st q d c := match q with | 0 => forCore_storable m d (Fin.cast nCore_zero c) (m (oLoc d))
  dn q d c := match q with | 0 => forCore_storable m d (Fin.cast nCore_zero c) (outD m d)
  go q d c i := match q with | 0 => forTile_storable m d (Fin.cast nCore_zero c) (Fin.cast nSub_zero i) (m (oLoc d))
  td q d c i := match q with | 0 => forTile_storable m d (Fin.cast nCore_zero c) (Fin.cast nSub_zero i) (outD m d)

omit [FloatOps F] in
/-- `x` whole is the two SparseCores' read shares of it, -/
theorem xPts_cores (d : Dev nD) (f : Buf (Elt F) (xLoc d)) :
    (xLoc d ↦{fullShare} f : sProp 𝕄) = bigSep Finset.univ fun c : Fin 2 => xLoc d ↦{xqC c} f :=
  pointsTo_deal Finset.univ Finset.univ_nonempty fullShare
omit [FloatOps F] in
/-- and a SparseCore's read share is its tiles'. -/
theorem xPts_tiles (d : Dev nD) (c : Fin 2) (f : Buf (Elt F) (xLoc d)) :
    (xLoc d ↦{xqC c} f : sProp 𝕄) = bigSep Finset.univ fun s : Fin 16 => xLoc d ↦{xqT c s} f :=
  pointsTo_deal Finset.univ Finset.univ_nonempty (xqC c)
omit [FloatOps F] in
/-- The result array is the two SparseCores' rows of it, -/
theorem oPts_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl
omit [FloatOps F] in
/-- and a SparseCore's rows are its tiles'. -/
theorem oPts_tiles (d : Dev nD) (c : Fin 2) (f : Buf (Elt F) (oLoc d)) :
    (oLoc d ↦[coreSet c]{fullShare} f : sProp 𝕄) = bigSep Finset.univ fun s : Fin 16 => oLoc d ↦[rowSet (wAt c s)]{fullShare} f := by
  rw [← pointsTo_biUnion Finset.univ (ℓ := oLoc d) (fun s => rowSet (wAt c s)) (rows_disjoint c), rows_cover]

/-- The whole arrays are the SparseCores' parts, -/
theorem pts_cores (d : Dev nD) (f : Buf (Elt F) (oLoc d)) :
    iprop((xLoc d ↦{fullShare} m (xLoc d)) ∗ oLoc d ↦{fullShare} f) = (bigSep Finset.univ fun c : Fin 2 => forCore m d c f : sProp 𝕄) := by
  unfold forCore
  rw [xPts_cores, oPts_cores, bigSep_sep']
/-- and a SparseCore's part is its tiles'. -/
theorem forCore_tiles (d : Dev nD) (c : Fin 2) (f : Buf (Elt F) (oLoc d)) :
    forCore m d c f = (bigSep Finset.univ fun s : Fin 16 => forTile m d c s f : sProp 𝕄) := by
  unfold forCore forTile
  rw [xPts_tiles, oPts_tiles, bigSep_sep']

/-! ## The task -/

section Tile

variable (d : Dev nD) (L : grid0.Coords)

/-- The nine DMA semaphores the kernel uses. -/
def sems : Finset (SemLoc sig) :=
  {.dma cc0_scoped0.sem, .dma cc0_scoped1.sem, .dma cc0_scoped2.sem, .dma cc0_scoped3.sem, .dma cc0_scoped4.sem, .dma cc0_scoped5.sem,
    .dma cc0_scoped6.sem, .dma cc0_scoped7.sem, .dma cc0_scoped8.sem}

/-- Each of the nine belongs to the kernel's scope on a tile. -/
theorem sems_scoped : ∀ s ∈ sems, s.isScoped .scVector = true := by decide

/-- A tile's own cells other than the nine. -/
def restCells : Finset (GSem nD τ sig) := ownCells (V d (cV L) (jV L)) \ sems.image fun s => (V d (cV L) (jV L), s)

omit [FloatOps F] in
/-- A tile's own semaphores at zero: the nine, and the rest. -/
theorem ownSems0_V :
    (ownSems0 (V d (cV L) (jV L)) : sProp 𝕄)
      = iprop((semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0 ∗ semVal (V d (cV L) (jV L), SemLoc.dma cc0_scoped3.sem) 0
          ∗ semVal (V d (cV L) (jV L), SemLoc.dma cc0_scoped4.sem) 0 ∗ semVal (V d (cV L) (jV L), SemLoc.dma cc0_scoped5.sem) 0
          ∗ semVal (V d (cV L) (jV L), SemLoc.dma cc0_scoped6.sem) 0 ∗ semVal (V d (cV L) (jV L), SemLoc.dma cc0_scoped7.sem) 0
          ∗ semVal (V d (cV L) (jV L), SemLoc.dma cc0_scoped8.sem) 0)
        ∗ bigSep (restCells d L) fun g => semVal g 0) := by
  unfold SparseCore.Cfg.ownSems0
  rw [SparseCore.bigSep_sdiff_split' (t := sems.image fun s => (V d (cV L) (jV L), s)) (by
      intro g hg
      obtain ⟨s, hs, rfl⟩ := Finset.mem_image.mp hg
      exact mem_ownCells.mpr ⟨rfl, sems_scoped s hs⟩),
    SparseCore.bigSep_image_of_injOn (fun a _ b _ h => congrArg Prod.snd h)]
  unfold sems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]
  rfl

/-- A tile's own buffers other than the two scratches. -/
def restRefs : Finset (DevRef τ sig) :=
  ((ownRefs (τ := τ) (.scVector (cV L) (jV L))).erase ((Proc.scVector (cV L) (jV L)).devRef cc0_scratch0)).erase ((Proc.scVector (cV L) (jV L)).devRef cc0_scratch1)

omit [FloatOps F] in
/-- A tile's own buffers: the two scratches, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Holding `x` as the kernel's program names it is holding the array, -/
theorem pts_x (q : PosShare TreeShare) (f : Buf (Elt F) (xLoc d)) :
    (xV.view.loc (V d (cV L) (jV L)) ↦[xV.view.set]{q} f : sProp 𝕄) = xLoc d ↦{q} f := by
  simp only [Memref.view_whole, View.set_whole]
omit [FloatOps F] in
/-- the row the program copies out to is the tile's row of the result, -/
theorem pts_o (f : Buf (Elt F) (oLoc d)) :
    ((oRow L).view.loc (V d (cV L) (jV L)) ↦[(oRow L).view.set]{fullShare} f : sProp 𝕄) = oLoc d ↦[rowSet (wOf L)]{fullShare} f := by
  rw [set_oRow]
omit [FloatOps F] in
/-- and the column scratch as the program names it is that buffer. -/
theorem pts_sB (f : Buf (Elt F) ((V d (cV L) (jV L)).loc cc0_scratch0)) :
    (sB.view.loc (V d (cV L) (jV L)) ↦[sB.view.set]{fullShare} f : sProp 𝕄) = (V d (cV L) (jV L)).loc cc0_scratch0 ↦{fullShare} f := by
  simp only [Memref.view_whole, View.set_whole]

/-- What a tile's run leaves in its row is the kernel's result there. -/
theorem row_done (x : Buf (Elt F) (xLoc d)) (fo : Buf (Elt F) (oLoc d)) (g : Buf (Elt F) ((V d (cV L) (jV L)).loc cc0_scratch1)) :
    ((oRow L).view.loc (V d (cV L) (jV L)) ↦[(oRow L).view.set]{fullShare}
        (oRow L).view.writes (Elt F) fo [⟨Rect.whole S16x128, sR.view.read (Elt F) (sR.view.writes (Elt F) g (pieces L x))⟩] : sProp 𝕄)
      = oLoc d ↦[rowSet (wOf L)]{fullShare} (outG (F := F) x : Buf (Elt F) (oLoc d)) := by
  have e : (sR.view.read (Elt F) (sR.view.writes (Elt F) g (pieces L x)) : S16x128.Idx → Elt F .f32) = rowOut L x := scratch_eq L x g
  rw [e, pts_o]
  exact pointsTo_congr (writes_oRow L x fo)

/-- The task on tile `L`: from a read share of `x` and its row of the result, the row computed. -/
theorem tile_body (hF : (K (F := F)).Facts) (q : PosShare TreeShare) (O : CellTallies nD τ sig (HIx 1)) (W : Waits sig (HIx 1)) (hO : ∀ g, O g none = 0) :
    iprop((levAts (K (F := F)).L (K (F := F)).lev : sProp 𝕄) ∗ emp
        ∗ ((xLoc d ↦{q} m (xLoc d)) ∗ oLoc d ↦[rowSet (wOf L)]{fullShare} m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) oV (Memref.isWhole_whole _) sB (Memref.isWhole_whole _) sR (Memref.isWhole_whole _) cc0_scoped0 cc0_scoped1 cc0_scoped2 cc0_scoped3 cc0_scoped4 cc0_scoped5 cc0_scoped6 cc0_scoped7 cc0_scoped8)
          fun _ => iprop(((xLoc d ↦{q} m (xLoc d)) ∗ oLoc d ↦[rowSet (wOf L)]{fullShare} outD m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hb⟩, ⟨%fr, Hr⟩, Hbufs⟩, ⟨⟨Hs0, Hs1, Hs2, Hs3, Hs4, Hs5, Hs6, Hs7, Hs8⟩, Hsems⟩, HO⟩
  ihave Hmw := (show (levAts (K (F := F)).L (K (F := F)).lev : sProp 𝕄) ⊢ Transfers.MayWaits (V d (cV L) (jV L)) (none : HIx 1) O from
    (K (F := F)).mayWaits_none (thr := V d (cV L) (jV L)) hO) $$ Hlv
  iapply (wp_wand_r frame _ Set.univ)
  isplitr [Hbufs Hsems]
  · iapply (run d L q O W (m (xLoc d)) (m (oLoc d)) fb fr)
    isplitl [Hmw]; · iexact Hmw
    isplitl [Hx]; · iapply (Entails.of_eq (pts_x (F := F) d L q _).symm); iexact Hx
    isplitl [Ho]; · iapply (Entails.of_eq (pts_o (F := F) d L _).symm); iexact Ho
    isplitl [Hb]; · iapply (Entails.of_eq (pts_sB (F := F) d L _).symm); iexact Hb
    isplitl [Hr]; · iexact Hr
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact HO
  iintro %_ ⟨Hx, Ho, ⟨%fb', Hb⟩, ⟨%fr', Hr⟩, Hs0, Hs1, Hs2, Hs3, Hs4, Hs5, Hs6, Hs7, Hs8, HO⟩
  isplitl [Hx Ho]
  · isplitl [Hx]; · iapply (Entails.of_eq (pts_x (F := F) d L q _)); iexact Hx
    iapply (Entails.of_eq (row_done (F := F) d L _ _ fr)); iexact Ho
  isplitl [Hb Hr Hbufs]
  · isplitl [Hb]; · iexists fb'; iapply (Entails.of_eq (pts_sB (F := F) d L _)); iexact Hb
    isplitl [Hr]; · iexists fr'; iexact Hr
    iexact Hbufs
  isplitl [Hs0 Hs1 Hs2 Hs3 Hs4 Hs5 Hs6 Hs7 Hs8 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexact HO

end Tile

/-! ## The launch theorem's obligations -/

/-- The body a tile runs is the printed kernel at the tile's coordinates. -/
theorem defs₀_vector (c : Fin τ.nSC) (s : Fin τ.nSub) :
    defs₀ (F := F) (.scVector c s) 0 ()
      = SparseCore.onTile hcore0 hsub0 (fun c s => cc0_k (coordsV c s)
          xV (Memref.isWhole_whole _) oV (Memref.isWhole_whole _) sB (Memref.isWhole_whole _) sR (Memref.isWhole_whole _)
          cc0_scoped0 cc0_scoped1 cc0_scoped2 cc0_scoped3 cc0_scoped4 cc0_scoped5 cc0_scoped6 cc0_scoped7 cc0_scoped8) ⟨⟩ c s := rfl

omit [FloatOps F] in
/-- Waits on no handshake are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation to the launch. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (xqT (Fin.cast nCore_zero c) (Fin.cast nSub_zero i)) O W hO).trans (wp_mono frame _ _ fun _ => obl_post)

omit [FloatOps F] in
/-- A sum over the call's tiles is a sum over sixteen, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- and one over its SparseCores a sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part splits among its tiles, and what they bring back makes up the part it returns. -/
theorem vecSplit : (K (F := F)).VecSplit' (P m) 0 := by
  intro d c
  show forCore m d (Fin.cast nCore_zero c) (m (oLoc d)) ⊢ |={Set.univ}=> iprop(
      (bigSep Finset.univ fun i : Fin ((K (F := F)).nSub 0) => forTile m d (Fin.cast nCore_zero c) (Fin.cast nSub_zero i) (m (oLoc d)))
      ∗ ((bigSep Finset.univ fun i : Fin ((K (F := F)).nSub 0) => forTile m d (Fin.cast nCore_zero c) (Fin.cast nSub_zero i) (outD m d))
          -∗ forCore m d (Fin.cast nCore_zero c) (outD m d)))
  rw [bigSep_tasks (F := F) (fun i => forTile m d (Fin.cast nCore_zero c) i (m (oLoc d))),
    bigSep_tasks (F := F) (fun i => forTile m d (Fin.cast nCore_zero c) i (outD m d)), ← forCore_tiles, ← forCore_tiles]
  iintro H; imodintro
  isplitl [H]; · iexact H
  iintro H; iexact H

/-! ## The launch element: the handshakes' rounds; nothing of the kernel's own -/

/-- The launch element: the handshakes' cells, and no counters. -/
def u₀ : UU := (initOf (K (F := F)).hsCells (K (F := F)).hsToks, 1)

omit [FloatOps F] in
/-- A sum of nothing is nothing. -/
theorem bigSep_emp' {I : Type} (s : Finset I) : (bigSep s fun _ => iprop(emp)) = (iprop(emp) : sProp 𝕄) := bigSep_emp_const s

/-- The launch element pays for the handshakes, which are all that is owed. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The five arrays of @main: `x`, -/
abbrev xD : DevRef τ sig := Proc.devRef .tc (main_arg0 : Ref sig .tc)
/-- the kernel's result, -/
abbrev oD : DevRef τ sig := Proc.devRef .tc (main_v0 : Ref sig .tc)
/-- it regrouped, -/
abbrev aD : DevRef τ sig := Proc.devRef .tc (main_v1 : Ref sig .tc)
/-- that transposed, -/
abbrev bD : DevRef τ sig := Proc.devRef .tc (main_v2 : Ref sig .tc)
/-- and that flattened, which is the program's result. -/
abbrev rD : DevRef τ sig := Proc.devRef .tc (main_v3 : Ref sig .tc)

/-- The three host operations after the call. -/
abbrev op1 : HloOp τ sig (Elt F) := StableHlo.reshape main_v0 main_v1 (rfl : (.f32 : EltTy) = .f32) Facts₀.shapeCasts_S32x16x128_S4x8x16x128
/-- The second, the transpose, -/
abbrev op2 : HloOp τ sig (Elt F) := StableHlo.unary main_v1 main_v2
  ((transpose S4x8x128x16 [0, 1, 3, 2] · Facts₀.transposes_S4x8x16x128_S4x8x128x16_0_1_3_2) : (⟨S4x8x16x128, .f32⟩ : BufTy).Contents (Elt F) → (⟨S4x8x128x16, .f32⟩ : BufTy).Contents (Elt F))
/-- and the third, the flattening. -/
abbrev op3 : HloOp τ sig (Elt F) := StableHlo.reshape main_v2 main_v3 (rfl : (.f32 : EltTy) = .f32) Facts₀.shapeCasts_S4x8x128x16_S4x16384

/-- The TensorCore's arrays. -/
abbrev S5 : Finset (DevRef τ sig) := {xD, oD, aD, bD, rD}

/-- The program's result array. -/
abbrev rLoc (d : Dev nD) : Loc nD τ sig := (SparseCore.T d).loc main_v3

omit [FloatOps F] in
/-- Holding the five arrays is holding each, -/
theorem held_S5 (d : Dev nD) (W : Valuation τ sig (Elt F)) :
    (held (T d) S5 W : sProp 𝕄) = iprop((xLoc d ↦{fullShare} W xD) ∗ (oLoc d ↦{fullShare} W oD) ∗ ((SparseCore.T d).loc main_v1 ↦{fullShare} W aD)
      ∗ ((SparseCore.T d).loc main_v2 ↦{fullShare} W bD) ∗ rLoc d ↦{fullShare} W rD) := by
  unfold held S5
  rw [SparseCore.bigSep_insert' (by decide), SparseCore.bigSep_insert' (by decide), SparseCore.bigSep_insert' (by decide), SparseCore.bigSep_insert' (by decide), bigSep_singleton]

omit [FloatOps F] in
/-- and they are all the buffers the TensorCore has at launch. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ ((SparseCore.T d).loc main_v1 ↦{fullShare} W main_v1)
      ∗ ((SparseCore.T d).loc main_v2 ↦{fullShare} W main_v2) ∗ rLoc d ↦{fullShare} W main_v3) := by
  unfold unscopedBufs
  rw [show (Finset.univ.filter fun b : Ref sig .tc => ¬ b.isScoped) = {main_arg0, main_v0, main_v1, main_v2, main_v3} by decide,
    SparseCore.bigSep_insert' (by decide), SparseCore.bigSep_insert' (by decide), SparseCore.bigSep_insert' (by decide), SparseCore.bigSep_insert' (by decide), bigSep_singleton]

/-- The launch contents; after the call, with the kernel's result. -/
def V0 (d : Dev nD) : Valuation τ sig (Elt F) := fun b => m (d, b)
/-- The contents after the call: the kernel's result in its array, the rest as at launch. -/
def V1 (d : Dev nD) : Valuation τ sig (Elt F) := Function.update (V0 m d) oD (outD m d)
/-- The contents at the end. -/
def V4 (d : Dev nD) : Valuation τ sig (Elt F) := (op3 (F := F)).result ((op2 (F := F)).result ((op1 (F := F)).result (V1 m d)))

/-- After the call `x` is as at launch, -/
theorem V1_x (d : Dev nD) : V1 m d xD = m (xLoc d) := Function.update_of_ne (show xD ≠ oD by decide) _ _
/-- the kernel's result is in its array, -/
theorem V1_o (d : Dev nD) : V1 m d oD = outD m d := Function.update_self _ _ _
/-- the regrouped array is as at launch, -/
theorem V1_a (d : Dev nD) : V1 m d aD = V0 m d aD := Function.update_of_ne (show aD ≠ oD by decide) _ _
/-- and the transposed one, -/
theorem V1_b (d : Dev nD) : V1 m d bD = V0 m d bD := Function.update_of_ne (show bD ≠ oD by decide) _ _
/-- and the flattened one. -/
theorem V1_r (d : Dev nD) : V1 m d rD = V0 m d rD := Function.update_of_ne (show rD ≠ oD by decide) _ _

/-- At the end `x` is as at launch, -/
theorem V4_x (d : Dev nD) : V4 m d xD = m (xLoc d) := by
  unfold V4
  rw [(op3 (F := F)).result_of_not_mem _ (b := xD) (show xD ∉ ({rD} : Finset (DevRef τ sig)) by decide),
    (op2 (F := F)).result_of_not_mem _ (b := xD) (show xD ∉ ({bD} : Finset (DevRef τ sig)) by decide),
    (op1 (F := F)).result_of_not_mem _ (b := xD) (show xD ∉ ({aD} : Finset (DevRef τ sig)) by decide), V1_x]

/-- The program's result: the kernel's result, regrouped by batch, transposed and flattened. -/
def resD (x : S4x4096x1024.Idx → Elt F .f32) : S4x16384.Idx → Elt F .f32 :=
  shapeCast S4x16384 (transpose S4x8x128x16 [0, 1, 3, 2] (shapeCast S4x8x16x128 (outG x) Facts₀.shapeCasts_S32x16x128_S4x8x16x128)
    Facts₀.transposes_S4x8x16x128_S4x8x128x16_0_1_3_2) Facts₀.shapeCasts_S4x8x128x16_S4x16384

/-- and the program's result is as computed. -/
theorem V4_r (d : Dev nD) : V4 m d rD = (resD (F := F) (m (xLoc d)) : Buf (Elt F) (rLoc d)) := by
  unfold V4
  rw [StableHlo.reshape_result', StableHlo.unary_result', StableHlo.reshape_result', V1_o]
  rfl

/-- The arrays at the end: `x` as at launch, the result as computed. -/
theorem held_end (d : Dev nD) :
    (held (T d) S5 ((op3 (F := F)).result ((op2 (F := F)).result ((op1 (F := F)).result (V1 m d)))) : sProp 𝕄)
      = iprop((xLoc d ↦{fullShare} m (xLoc d)) ∗ (oLoc d ↦{fullShare} V4 m d oD) ∗ ((SparseCore.T d).loc main_v1 ↦{fullShare} V4 m d aD)
        ∗ ((SparseCore.T d).loc main_v2 ↦{fullShare} V4 m d bD) ∗ rLoc d ↦{fullShare} (resD (F := F) (m (xLoc d)) : Buf (Elt F) (rLoc d))) := by
  show held (T d) S5 (V4 m d) = _
  rw [held_S5, V4_x, V4_r]

/-- At launch @main holds its five arrays at the launch contents. -/
theorem unscoped_held (d : Dev nD) : (unscopedBufs d (fun b => m ((SparseCore.T d).loc b)) : sProp 𝕄) = held (T d) S5 (V0 m d) := by
  rw [unscopedBufs_eq, held_S5]; rfl

/-- What the call takes is `x` and the result array whole, -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  rw [pts_cores]; exact bigSep_cores (F := F) (fun c => forCore m d c (m (oLoc d)))
/-- and what it brings back is the same with the rows computed. -/
theorem dn0_eq (d : Dev nD) : (bigSep Finset.univ fun c : Fin ((K (F := F)).nCore 0) => (P m).dn 0 d c)
    = iprop((xLoc d ↦{fullShare} m (xLoc d)) ∗ oLoc d ↦{fullShare} outD m d) := by
  rw [pts_cores]; exact bigSep_cores (F := F) (fun c => forCore m d c (outD m d))

/-- The first host operation works on the five arrays, -/
theorem h1 : (op1 (F := F)).bufs ⊆ S5 := show ({oD, aD} : Finset (DevRef τ sig)) ⊆ S5 by decide
/-- the second too, -/
theorem h2 : (op2 (F := F)).bufs ⊆ S5 := show ({aD, bD} : Finset (DevRef τ sig)) ⊆ S5 by decide
/-- and the third. -/
theorem h3 : (op3 (F := F)).bufs ⊆ S5 := show ({bD, rD} : Finset (DevRef τ sig)) ⊆ S5 by decide

/-- What @main leaves the claim: `x` at its launch contents and the result. -/
abbrev FIN (d : Dev nD) : sProp 𝕄 := iprop((xLoc d ↦{fullShare} m (xLoc d)) ∗ rLoc d ↦{fullShare} (resD (F := F) (m (xLoc d)) : Buf (Elt F) (rLoc d)))

/-- @main on device `d`'s TensorCore: the call, then the three host operations on what came back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S5 (F := F) d _)) $$ Hheld
  icases Hh with ⟨Hx, Ho, Ha, Hv, Hr⟩
  iapply ((K (F := F)).wp_run (D (F := F)) 𝒱 (EH := EH) (P := P m) κ d 0) $$ [Hst Hx Ho Hb Ha Hv Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := op1) (S := S5) h1 (V := V1 m d)) $$ [Hb Hx Ho Ha Hv Hr]
  · isplitl [Hb]; · iexact Hb
    rw [held_S5, V1_x, V1_o, V1_a, V1_b, V1_r]
    isplitl [Hx]; · iexact Hx
    isplitl [Ho]; · iexact Ho
    isplitl [Ha]; · iexact Ha
    isplitl [Hv]; · iexact Hv
    iexact Hr
  iintro ⟨Hb, Hheld⟩
  rw [wp_ret]; imodintro
  iapply (wp_hlo_within 𝒱 (SparseCore.T d) none Set.univ (op := op2) (S := S5) h2) $$ [Hb Hheld]
  · isplitl [Hb] <;> iassumption
  iintro ⟨Hb, Hheld⟩
  rw [wp_ret]; imodintro
  iapply (wp_hlo_within 𝒱 (SparseCore.T d) none Set.univ (op := op3) (S := S5) h3) $$ [Hb Hheld]
  · isplitl [Hb] <;> iassumption
  iintro ⟨Hb, Hheld⟩
  ihave Hh := (Entails.of_eq (held_end m d)) $$ Hheld
  icases Hh with ⟨Hx, -, -, -, Hr⟩
  rw [wp_ret]; imodintro; imodintro
  isplitl [Hst]; · iexact Hst
  isplitr [Hb Hts]
  · isplitl [Hx]; · iexact Hx
    iexact Hr
  isplitl [Hb] <;> iassumption

/-- What a final state shows on one device: `x` as at launch, the result as computed. -/
def fq (d : Dev nD) (s' : Phys nD τ sig (Elt F)) : Prop :=
  s'.mem.mem (xLoc d) = m (xLoc d) ∧ s'.mem.mem (rLoc d) = (resD (F := F) (m (xLoc d)) : Buf (Elt F) (rLoc d))

/-- What @main ends with makes a final state show that. -/
theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := resD (F := F) (m (xLoc d)))) $$ [HSI Hr]
  · isplitl [HSI] <;> iassumption
  icases H with %h2
  ipureintro; exact ⟨funext fun i => h1 i (Finset.mem_univ i), funext fun i => h2 i (Finset.mem_univ i)⟩

/-! ## The program's run -/

/-- At the end: `x` unchanged, the result as computed, every semaphore counter zero. -/
def QC : PUnit × MemSt nD τ sig (Elt F) → Prop := fun r =>
  (∀ c : Dev nD, r.2.mem (xLoc c) = m (xLoc c) ∧ r.2.mem (rLoc c) = (resD (F := F) (m (xLoc c)) : Buf (Elt F) (rLoc c))) ∧ r.2.sem = fun _ => 0

/-- The program runs from any launch memory, over any float values, and ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.TopK

end
-- ==== Proof.Column.lean ====
/-
  What the kernel computes over the extended reals: for each batch and column of `x`, the sixteen greatest entries of that
  column, descending.
-/
module

public import proofs.«01_k».proof.Proof.Launch

@[expose] public section

noncomputable section

namespace Cert.Proof.TopK

open Cert.KernelIdeal Cert.KernelIdeal.Gen

open Idealize.ShloMosaic
open Idealize.ShloMosaic.ValueIdx
open Idealize.ShloMosaic.SortNet (topList topList_perm topList_append_topList topList_append_of_le topList_eq_self length_topList)

variable {F : FTy → Type} [FloatOps F]

/-! ## Places -/

omit [FloatOps F] in
/-- Row `j` of block `t` holds, in lane `l`, the fetched entry at row `16 t + j`. -/
theorem rowOf_at (f : S4096x16.Idx → Elt F .f32) (t : Fin k0_t1_loop.trips) (ht : t.val < 256) (j l : Fin 16) :
    rowOf f t j (ix1 l) = f (ix2 (⟨16 * t.val + j.val, by omega⟩ : Fin 4096) l) := by
  unfold rowOf
  refine (shapeCast_apply _ _ (ix1 l) (ix2 (0 : Fin 1) l) ?_).trans ?_
  · rw [Shape.rowMajor_val_one, Shape.rowMajor_val_two]
    show 0 * 16 + l.val = l.val
    omega
  · show f ((Rect.unit (s := S4096x16) (k0_off2 t (BitVec.ofNat 32 j.val)) S1x16.size (k0_off2_inb t j)).emb (ix2 (0 : Fin 1) l)) = _
    congr 1
    funext k
    apply Fin.ext
    have h := k0_off2_eq t j
    match k with
    | 0 => show k0_off2 t (BitVec.ofNat 32 j.val) 0 + 1 * 0 = 16 * t.val + j.val; rw [h]; show 16 * t.val + j.val + 1 * 0 = _; omega
    | 1 => show k0_off2 t (BitVec.ofNat 32 j.val) 1 + 1 * l.val = l.val; rw [h]; show 0 + 1 * l.val = l.val; omega

/-- The loop makes 256 trips. -/
theorem trips_eq : k0_t1_loop.trips = 256 := by decide +kernel

omit [FloatOps F] in
/-- `rowOf_at` by the trip's number. -/
theorem rowN_at (f : S4096x16.Idx → Elt F .f32) (k : ℕ) (hk : k < 256) (j l : Fin 16) :
    rowN f k j (ix1 l) = f (ix2 (⟨16 * k + j.val, by omega⟩ : Fin 4096) l) := by
  unfold rowN
  rw [dif_pos (trips_eq ▸ hk)]
  exact rowOf_at f ⟨k, trips_eq ▸ hk⟩ hk j l

/-- Where tile `L`'s column group `g` starts in `x`. -/
theorem off1_eq : ∀ (c : Fin 2) (s : Fin 16) (g : Fin 8), k0_off1 (coordsV c s) (BitVec.ofNat 32 (16 * g.val))
    = ![(2 * s.val + c.val) / 8, 0, 128 * ((2 * s.val + c.val) % 8) + 16 * g.val] := by decide +kernel

omit [FloatOps F] in
/-- Entry `(i, l)` of the block that the tile of row `w` fetches for column group `g`. -/
theorem colsOf_at (w : Fin 32) (x : S4x4096x1024.Idx → Elt F .f32) (g : Fin 8) (i : Fin 4096) (l : Fin 16) :
    colsOf (Lof w) x g (ix2 i l) = x (ix3 (⟨w.val / 8, by omega⟩ : Fin 4) i (⟨128 * (w.val % 8) + 16 * g.val + l.val, by omega⟩ : Fin 1024)) := by
  show x ((Rect.unit (s := S4x4096x1024) (k0_off1 (Lof w) (BitVec.ofNat 32 (16 * g.val))) S1x4096x16.size (k0_off1_inb (Lof w) g)).emb
    (Shape.reshapeEquiv _ (ix2 i l))) = _
  congr 1
  rw [reshapeEquiv_ix2_1ab]
  have h := off1_eq (⟨w.val % 2, by omega⟩) (⟨w.val / 2, by omega⟩) g
  have hw : 2 * (w.val / 2) + w.val % 2 = w.val := by omega
  simp only [hw] at h
  have h' : k0_off1 (Lof w) (BitVec.ofNat 32 (16 * g.val)) = ![w.val / 8, 0, 128 * (w.val % 8) + 16 * g.val] := h
  funext k
  apply Fin.ext
  match k with
  | 0 => show k0_off1 (Lof w) (BitVec.ofNat 32 (16 * g.val)) 0 + 1 * 0 = w.val / 8; rw [h']; rfl
  | 1 => show k0_off1 (Lof w) (BitVec.ofNat 32 (16 * g.val)) 1 + 1 * i.val = i.val; rw [h']; show 0 + 1 * i.val = i.val; omega
  | 2 => show k0_off1 (Lof w) (BitVec.ofNat 32 (16 * g.val)) 2 + 1 * l.val = _; rw [h']; show 128 * (w.val % 8) + 16 * g.val + 1 * l.val = 128 * (w.val % 8) + 16 * g.val + l.val; omega

/-! ## The loop over the extended reals -/

/-- The sentinel is the least extended real. -/
theorem sentinel (i : S16.Idx) : (k0_pay1609 (F := Ideal)) i = (⊥ : EReal) := by
  show Ideal.ofBits .f32 0xFF800000#32 = ⊥
  simp [Ideal.ofBits, Ideal.ieee]

/-- The entries of lane `l` in the first `n` blocks, in the order of the trips. -/
def entries (f : S4096x16.Idx → EReal) (l : Fin 16) (n : ℕ) : List EReal :=
  (List.range n).flatMap fun k => List.ofFn fun j => (rowN (F := Ideal) f k j (ix1 l) : EReal)

/-- After `n` trips lane `l` of the sixteen vectors holds the sixteen greatest of the sentinels and its entries so far. -/
theorem accN_lane (f : S4096x16.Idx → EReal) (l : Fin 16) (n : ℕ) :
    Antitone (fun j => (accN (F := Ideal) f n j (ix1 l) : EReal))
      ∧ List.ofFn (fun j => (accN (F := Ideal) f n j (ix1 l) : EReal)) = topList 16 (List.replicate 16 ⊥ ++ entries f l n) := by
  induction n with
  | zero =>
    have e : (fun j : Fin 16 => (accN (F := Ideal) f 0 j (ix1 l) : EReal)) = fun _ => ⊥ := funext fun _ => sentinel (ix1 l)
    rw [e]
    refine ⟨antitone_const, ?_⟩
    rw [show entries f l 0 = [] from rfl, List.append_nil, List.ofFn_const]
    exact (topList_eq_self (List.pairwise_replicate.mpr (Or.inr le_rfl)) (by simp)).symm
  | succ n ih =>
    have e : (fun j : Fin 16 => (accN (F := Ideal) f (n + 1) j (ix1 l) : EReal))
        = step max min (fun j => accN (F := Ideal) f n j (ix1 l)) (fun j => rowN (F := Ideal) f n j (ix1 l)) :=
      funext fun j => step_hom (maximumf (F := Ideal)) (minimumf (F := Ideal)) (max : EReal → EReal → EReal) min (fun v : FVec Ideal S16 .f32 => v (ix1 l))
        (fun _ _ => rfl) (fun _ _ => rfl) (accN (F := Ideal) f n) (rowN (F := Ideal) f n) j
    obtain ⟨h1, h2⟩ := step_topList _ (fun j => (rowN (F := Ideal) f n j (ix1 l) : EReal)) ih.1
    rw [e]
    refine ⟨h1, h2.trans ?_⟩
    rw [ih.2, topList_append_topList, List.append_assoc]
    congr 2
    unfold entries
    rw [List.range_succ, List.flatMap_append, List.flatMap_singleton]

/-- All the entries of lane `l` are its column of the fetched block. -/
theorem entries_all (f : S4096x16.Idx → EReal) (l : Fin 16) : entries f l 256 = List.ofFn fun i : Fin 4096 => f (ix2 i l) := by
  have h := List.ofFn_mul (m := 256) (n := 16) (fun i : Fin (256 * 16) => f (ix2 (i : Fin 4096) l))
  refine Eq.trans ?_ h.symm
  unfold entries
  rw [List.flatMap_def]
  congr 1
  refine List.ext_getElem (by rw [List.length_map, List.length_range, List.length_ofFn]) fun k hk _ => ?_
  have hk' : k < 256 := by rwa [List.length_map, List.length_range] at hk
  simp only [List.getElem_map, List.getElem_range, List.getElem_ofFn]
  congr 1
  funext j
  refine (rowN_at (F := Ideal) f k hk' j l).trans ?_
  congr 2
  apply Fin.ext
  show 16 * k + j.val = k * 16 + j.val
  omega

/-- THE LOOP'S RESULT: lane `l` of the sixteen vectors is the sixteen greatest entries of column `l` of the block, descending. -/
theorem accOf_lane (f : S4096x16.Idx → EReal) (l : Fin 16) :
    List.ofFn (fun j => (accOf (F := Ideal) f j (ix1 l) : EReal)) = topList 16 (List.ofFn fun i : Fin 4096 => f (ix2 i l)) := by
  unfold accOf
  rw [(accN_lane f l 256).2, entries_all, topList_perm List.perm_append_comm]
  refine topList_append_of_le 16 _ _ (by rw [List.length_ofFn]; omega) fun s hs a _ => ?_
  rw [List.eq_of_mem_replicate hs]
  exact bot_le

/-! ## The program's result -/

/-- Place `16 c + j` of batch `b` in the result reads place `(j, c % 128)` of row `8 b + c / 128`. -/
theorem resD_at (x : S4x4096x1024.Idx → Elt F .f32) (b : Fin 4) (c : Fin 1024) (j : Fin 16) :
    resD x (ix2 b (⟨16 * c.val + j.val, by omega⟩ : Fin 16384))
      = outG x (ix3 (⟨8 * b.val + c.val / 128, by omega⟩ : Fin 32) j (⟨c.val % 128, by omega⟩ : Fin 128)) := by
  unfold resD
  refine (shapeCast_apply _ _ _ (ix4 b (⟨c.val / 128, by omega⟩ : Fin 8) (⟨c.val % 128, by omega⟩ : Fin 128) j) ?_).trans ?_
  · rw [Shape.rowMajor_val_four, Shape.rowMajor_val_two]
    show ((b.val * 8 + c.val / 128) * 128 + c.val % 128) * 16 + j.val = b.val * 16384 + (16 * c.val + j.val)
    omega
  refine (transpose_apply _ _ _ _ (ix4 b (⟨c.val / 128, by omega⟩ : Fin 8) j (⟨c.val % 128, by omega⟩ : Fin 128)) ?_).trans ?_
  · intro a
    match a with
    | 0 => rfl
    | 1 => rfl
    | 2 => rfl
    | 3 => rfl
  refine shapeCast_apply _ _ _ _ ?_
  rw [Shape.rowMajor_val_four, Shape.rowMajor_val_three]
  show ((8 * b.val + c.val / 128) * 16 + j.val) * 128 + c.val % 128 = ((b.val * 8 + c.val / 128) * 16 + j.val) * 128 + c.val % 128
  omega

/-- THE KERNEL'S RESULT: places `16 c, …, 16 c + 15` of batch `b` are the sixteen greatest entries of column `c`, descending. -/
theorem resD_top (x : S4x4096x1024.Idx → EReal) (b : Fin 4) (c : Fin 1024) :
    List.ofFn (fun j : Fin 16 => (resD (F := Ideal) x (ix2 b (⟨16 * c.val + j.val, by omega⟩ : Fin 16384)) : EReal))
      = topList 16 (List.ofFn fun i : Fin 4096 => x (ix3 b i c)) := by
  have e : (fun j : Fin 16 => (resD (F := Ideal) x (ix2 b (⟨16 * c.val + j.val, by omega⟩ : Fin 16384)) : EReal))
      = fun j => accOf (F := Ideal) (colsOf (F := Ideal) (Lof ⟨8 * b.val + c.val / 128, by omega⟩) x (grp ⟨c.val % 128, by omega⟩)) j
          (ix1 (lane ⟨c.val % 128, by omega⟩)) := funext fun j => resD_at (F := Ideal) x b c j
  rw [e, accOf_lane]
  congr 2
  funext i
  refine (colsOf_at (F := Ideal) _ x _ i _).trans ?_
  congr 1
  funext k
  apply Fin.ext
  match k with
  | 0 => show (8 * b.val + c.val / 128) / 8 = b.val; omega
  | 1 => rfl
  | 2 => show 128 * ((8 * b.val + c.val / 128) % 8) + 16 * (c.val % 128 / 16) + c.val % 128 % 16 = c.val; omega

end Cert.Proof.TopK

end
-- ==== Proof.Largest.lean ====
/-
  The reference over the extended reals: for each batch and column of `x`, the sixteen greatest entries of that column,
  descending; and the two results equal.
-/
module

public import proofs.«01_k».proof.Proof.Column
public import proofs.«01_k».proof.Proof.Gen.ReferenceIdeal.Run
public import Idealize.ShloMosaic.Lib.SortFacts

@[expose] public section

noncomputable section

namespace Cert.Proof.TopK

open Idealize.ShloMosaic
open Idealize.ShloMosaic.ValueIdx
open Idealize.ShloMosaic.SortNet (topList eq_of_perm_of_descending)

/-! ## A column sorted -/

variable {n : ℕ}

/-- The positions of a column in the order of the host's sort, greater entries first. -/
def order (v : Fin n → EReal) : Fin n → Fin n :=
  sortedFrom fun k k' => FloatOps.cmpfTotal (F := Ideal) (φ := .f32) .gt (v k) (v k') == 1#1

/-- The host's compare over the extended reals is the order of the extended reals. -/
theorem gt_iff (a b : EReal) : (FloatOps.cmpfTotal (F := Ideal) (φ := .f32) .gt a b == 1#1) = decide (b < a) := by
  show (BitVec.ofBool (decide (b < a)) == 1#1) = _
  by_cases h : b < a <;> simp [h]

/-- A column read in that order descends, -/
theorem order_descends (v : Fin n → EReal) (i j : Fin n) (hij : i < j) : v (order v j) ≤ v (order v i) := by
  unfold order
  simp only [gt_iff]
  have h := sortedFrom_noInversion (fun k k' : Fin n => decide (v k' < v k)) (fun k k' => decide (v k' < v k))
    (fun a b h => decide_eq_false (not_lt.mpr (le_of_lt (of_decide_eq_true h)))) (fun _ _ h => h)
    (fun a b c hab hbc => decide_eq_false (not_lt.mpr ((not_lt.mp (of_decide_eq_false hab)).trans (not_lt.mp (of_decide_eq_false hbc))))) i j hij
  exact not_lt.mp (of_decide_eq_false h)

/-- and is the column sorted. -/
theorem sorted_column (v : Fin n → EReal) : List.ofFn (fun k => v (order v k)) = (List.ofFn v).insertionSort (· ≥ ·) := by
  refine eq_of_perm_of_descending ?_ ?_ (List.pairwise_insertionSort (· ≥ ·) _)
  · refine List.Perm.trans ?_ (List.perm_insertionSort (· ≥ ·) _).symm
    exact Equiv.Perm.ofFn_comp_perm (Equiv.ofBijective (order v) ⟨sortedFrom_injective _, sortedFrom_surjective _⟩) v
  · exact List.pairwise_ofFn.mpr fun i j hij => order_descends v i j hij

/-- The first sixteen of the column read in that order are its sixteen greatest. -/
theorem first_sixteen (v : Fin 4096 → EReal) : List.ofFn (fun j : Fin 16 => v (order v (Fin.castLE (by omega) j))) = topList 16 (List.ofFn v) := by
  unfold topList
  rw [← sorted_column]
  refine List.ext_getElem (by rw [List.length_take, List.length_ofFn, List.length_ofFn]; rfl) fun k h1 h2 => ?_
  rw [List.getElem_take, List.getElem_ofFn, List.getElem_ofFn]
  rfl

/-! ## The reference's result -/

open Cert.ReferenceIdeal Cert.ReferenceIdeal.Gen

/-- The reference's result of `x`. -/
def refD (x : S4x4096x1024.Idx → EReal) : S4x16384.Idx → EReal :=
  shapeCast S4x16384 (Host.topK S4x1024x16 2 (FloatOps.cmpfTotal (F := Ideal) (φ := .f32) .gt)
    (transpose S4x1024x4096 [0, 2, 1] x Facts₀.transposes_S4x4096x1024_S4x1024x4096_0_2_1) Facts₀.sliceFits_S4x1024x4096_S4x1024x16).1
    Facts₀.shapeCasts_S4x1024x16_S4x16384

/-- Moving the last of three coordinates to `k` gives the index with `k` there. -/
theorem along_last {n₀ n₁ n₂ : ℕ} (b : Fin n₀) (c : Fin n₁) (i k : Fin n₂) :
    Shape.Idx.along (s := ⟨3, ![n₀, n₁, n₂]⟩) (ix3 b c i) (2 : Fin 3) k = ix3 b c k := by
  unfold Shape.Idx.along
  funext a
  match a with
  | 0 => rfl
  | 1 => rfl
  | 2 => rfl

/-- A sort along the last of three axes reads each row through the order of that row. -/
theorem sortBy_last {n₀ n₁ n₂ : ℕ} {ι α : Type} (cmp : ι → ι → BitVec 1) (rows : (⟨3, ![n₀, n₁, n₂]⟩ : Shape).Idx → ι)
    (y : (⟨3, ![n₀, n₁, n₂]⟩ : Shape).Idx → α) (b : Fin n₀) (c : Fin n₁) (k : Fin n₂) :
    Host.sortBy ⟨3, ![n₀, n₁, n₂]⟩ 2 cmp rows y (ix3 b c k)
      = y (ix3 b c (sortedFrom (fun i i' => cmp (rows (ix3 b c i)) (rows (ix3 b c i')) == 1#1) k)) := by
  unfold Host.sortBy
  rw [dif_pos (show 2 < 3 by decide)]
  refine (congrArg y (along_last b c _ _)).trans ?_
  have e : ∀ i : Fin n₂, Shape.Idx.along (s := ⟨3, ![n₀, n₁, n₂]⟩) (ix3 b c k) (2 : Fin 3) i = ix3 b c i := along_last b c k
  exact congrArg (fun r => y (ix3 b c (sortedFrom r k))) (funext fun i => funext fun i' =>
    congrArg₂ (fun p q => cmp (rows p) (rows q) == 1#1) (e i) (e i'))

/-- The top-k of an array at `(b, c, j)`: the entry of that row at its `j`-th position in the sort's order. -/
theorem topK_at (y : S4x1024x4096.Idx → EReal) (b : Fin 4) (c : Fin 1024) (j : Fin 16) :
    (Host.topK S4x1024x16 2 (FloatOps.cmpfTotal (F := Ideal) (φ := .f32) .gt) y Facts₀.sliceFits_S4x1024x4096_S4x1024x16).1 (ix3 b c j)
      = y (ix3 b c (order (fun i => y (ix3 b c i)) (Fin.castLE (by omega) j))) := by
  unfold Host.topK
  dsimp only
  rw [Host.sort2_eq_sortBy]
  refine (extractStridedSlice_apply (s := S4x1024x4096) (t := S4x1024x16) _ _ _ _ (ix3 b c (Fin.castLE (by omega) j : Fin 4096)) ?_).trans ?_
  · intro a
    match a with
    | 0 => show b.val = 0 + b.val; omega
    | 1 => show c.val = 0 + c.val; omega
    | 2 => show j.val = 0 + j.val; omega
  exact sortBy_last _ _ y b c _

/-- THE REFERENCE'S RESULT: places `16 c, …, 16 c + 15` of batch `b` are the sixteen greatest entries of column `c`, descending. -/
theorem refD_top (x : S4x4096x1024.Idx → EReal) (b : Fin 4) (c : Fin 1024) :
    List.ofFn (fun j : Fin 16 => refD x (ix2 b (⟨16 * c.val + j.val, by omega⟩ : Fin 16384)))
      = topList 16 (List.ofFn fun i : Fin 4096 => x (ix3 b i c)) := by
  rw [← first_sixteen]
  congr 1
  funext j
  unfold refD
  refine (shapeCast_apply _ _ _ (ix3 b c j) ?_).trans ?_
  · rw [Shape.rowMajor_val_three, Shape.rowMajor_val_two]
    show (b.val * 1024 + c.val) * 16 + j.val = b.val * 16384 + (16 * c.val + j.val)
    omega
  refine (topK_at _ b c j).trans ?_
  have e : ∀ i : Fin 4096, transpose S4x1024x4096 [0, 2, 1] x Facts₀.transposes_S4x4096x1024_S4x1024x4096_0_2_1 (ix3 b c i) = x (ix3 b i c) :=
    fun i => transpose_ix3_021_apply x _ b c i
  rw [e]
  simp only [e]

/-! ## The two results are one -/

/-- Two results whose sixteen places agree at every batch and column are equal. -/
theorem eq_of_columns (f g : (⟨2, ![4, 16384]⟩ : Shape).Idx → EReal)
    (h : ∀ (b : Fin 4) (c : Fin 1024), List.ofFn (fun j : Fin 16 => f (ix2 b (⟨16 * c.val + j.val, by omega⟩ : Fin 16384)))
      = List.ofFn (fun j : Fin 16 => g (ix2 b (⟨16 * c.val + j.val, by omega⟩ : Fin 16384)))) : f = g := by
  funext y
  obtain ⟨b, n, rfl⟩ : ∃ (b : Fin 4) (n : Fin 16384), y = ix2 b n := ⟨_, _, eq_ix2 y⟩
  have hn : n = (⟨16 * (n.val / 16) + n.val % 16, by omega⟩ : Fin 16384) := Fin.ext (by show n.val = 16 * (n.val / 16) + n.val % 16; omega)
  rw [hn]
  exact congrFun (List.ofFn_injective (h b ⟨n.val / 16, by omega⟩)) ⟨n.val % 16, by omega⟩

/-- THE KERNEL'S RESULT IS THE REFERENCE'S, over the extended reals, whatever `x` holds. -/
theorem resD_eq_refD (x : S4x4096x1024.Idx → EReal) : (resD (F := Ideal) x : (⟨2, ![4, 16384]⟩ : Shape).Idx → EReal) = refD x :=
  eq_of_columns _ _ fun b c => (resD_top x b c).trans (refD_top x b c).symm

end Cert.Proof.TopK

end
-- ==== Proof.Claims.lean ====
/-
  The claims: both programs' frames from the one run, the reference's from its own, and the value claim.
-/
module

public import proofs.«01_k».proof.Defs
public import proofs.«01_k».proof.Proof.Largest
public import proofs.«01_k».proof.Proof.Gen.Kernel.Skeleton

@[expose] public section

noncomputable section

namespace Cert.Proof.TopK

open Idealize.ShloMosaic Idealize.SL.Sem

/-- The kernel over the bit patterns runs, leaves its argument unchanged and every semaphore at zero. -/
theorem frame_kernel : Cert.quiescent_Kernel := fun m ρ _ =>
  (θ_run Cert.KernelIdeal.defs _ _).mono (fun _ h => ⟨fun c => (h.1 c).1, h.2⟩) (run_main (F := Bits) m ρ)

/-- The kernel over the extended reals does too, -/
theorem frame_ideal : Cert.quiescent_KernelIdeal := fun m ρ _ =>
  (θ_run Cert.KernelIdeal.defs _ _).mono (fun _ h => ⟨fun c => (h.1 c).1, h.2⟩) (run_main (F := Ideal) m ρ)

/-- and so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same `x` the kernel and the reference end with equal results over the extended reals. -/
theorem algebraic : Cert.algebraic_KernelIdeal_ReferenceIdeal := fun m ρ m' ρ' _ hx =>
  ⟨fun c => resD (F := Ideal) (m (xLoc c)),
    (θ_run Cert.KernelIdeal.defs _ _).mono (fun _ h c => ⟨(h.1 c).2, (h.1 c).1⟩) (run_main (F := Ideal) m ρ),
    (θ_run Cert.ReferenceIdeal.defs _ _).mono
      (fun _ h c => ⟨((h c).1.trans (congrArg refD (hx c))).trans (resD_eq_refD (m (xLoc c))).symm, (h c).2⟩)
      (Cert.ReferenceIdeal.Value.run (F := Ideal) m' ρ')⟩

end Cert.Proof.TopK

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  TopK.frame_kernel, TopK.frame_ideal, TopK.frame_reference, trivial, TopK.algebraic⟩

end Cert.Proof

end
